-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v36) = v0 c
          ∧ r.2.mem ((c.tc : Thread Cert.Reference23Ideal.nD Cert.Reference23Ideal.τ).loc Cert.Reference23Ideal.main_v41) = v1 c
          ∧ r.2.mem ((c.tc : Thread Cert.Reference23Ideal.nD Cert.Reference23Ideal.τ).loc Cert.Reference23Ideal.main_v46) = v2 c
          ∧ r.2.mem ((c.tc : Thread Cert.Reference23Ideal.nD Cert.Reference23Ideal.τ).loc Cert.Reference23Ideal.main_v51) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v41) = v1 c
          ∧ r.2.mem ((c.tc : Thread Cert.Reference24Ideal.nD Cert.Reference24Ideal.τ).loc Cert.Reference24Ideal.main_v46) = v2 c
          ∧ r.2.mem ((c.tc : Thread Cert.Reference24Ideal.nD Cert.Reference24Ideal.τ).loc Cert.Reference24Ideal.main_v51) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v35) = v0 c
          ∧ r.2.mem ((c.tc : Thread Cert.Reference25Ideal.nD Cert.Reference25Ideal.τ).loc Cert.Reference25Ideal.main_v40) = v1 c
          ∧ r.2.mem ((c.tc : Thread Cert.Reference25Ideal.nD Cert.Reference25Ideal.τ).loc Cert.Reference25Ideal.main_v45) = v2 c
          ∧ r.2.mem ((c.tc : Thread Cert.Reference25Ideal.nD Cert.Reference25Ideal.τ).loc Cert.Reference25Ideal.main_v50) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)) (v4 : (c : Dev Cert.Kernel27Ideal.nD) → Buf (Elt Ideal) ((c.tc : Thread Cert.Kernel27Ideal.nD Cert.Kernel27Ideal.τ).loc Cert.Kernel27Ideal.main_v0_4)) (v5 : (c : Dev Cert.Kernel27Ideal.nD) → Buf (Elt Ideal) ((c.tc : Thread Cert.Kernel27Ideal.nD Cert.Kernel27Ideal.τ).loc Cert.Kernel27Ideal.main_v0_5)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_v0_4) = v4 c
          ∧ r.2.mem ((c.tc : Thread Cert.Kernel27Ideal.nD Cert.Kernel27Ideal.τ).loc Cert.Kernel27Ideal.main_v0_5) = v5 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v58) = v0 c
          ∧ r.2.mem ((c.tc : Thread Cert.Reference27Ideal.nD Cert.Reference27Ideal.τ).loc Cert.Reference27Ideal.main_v62) = v1 c
          ∧ r.2.mem ((c.tc : Thread Cert.Reference27Ideal.nD Cert.Reference27Ideal.τ).loc Cert.Reference27Ideal.main_v66) = v2 c
          ∧ r.2.mem ((c.tc : Thread Cert.Reference27Ideal.nD Cert.Reference27Ideal.τ).loc Cert.Reference27Ideal.main_v59) = v3 c
          ∧ r.2.mem ((c.tc : Thread Cert.Reference27Ideal.nD Cert.Reference27Ideal.τ).loc Cert.Reference27Ideal.main_v38) = v4 c
          ∧ r.2.mem ((c.tc : Thread Cert.Reference27Ideal.nD Cert.Reference27Ideal.τ).loc Cert.Reference27Ideal.main_v37) = v5 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v35) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_v10) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v6) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)) (v4 : (c : Dev Cert.Kernel31Ideal.nD) → Buf (Elt Ideal) ((c.tc : Thread Cert.Kernel31Ideal.nD Cert.Kernel31Ideal.τ).loc Cert.Kernel31Ideal.main_v0_4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_v0_4) = v4 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v57) = v0 c
          ∧ r.2.mem ((c.tc : Thread Cert.Reference31Ideal.nD Cert.Reference31Ideal.τ).loc Cert.Reference31Ideal.main_v51) = v1 c
          ∧ r.2.mem ((c.tc : Thread Cert.Reference31Ideal.nD Cert.Reference31Ideal.τ).loc Cert.Reference31Ideal.main_v53) = v2 c
          ∧ r.2.mem ((c.tc : Thread Cert.Reference31Ideal.nD Cert.Reference31Ideal.τ).loc Cert.Reference31Ideal.main_v56) = v3 c
          ∧ r.2.mem ((c.tc : Thread Cert.Reference31Ideal.nD Cert.Reference31Ideal.τ).loc Cert.Reference31Ideal.main_v35) = v4 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v29) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)) →
    ∃ (v0 : (c : Dev Cert.Kernel33Ideal.nD) → Buf (Elt Ideal) ((c.tc : Thread Cert.Kernel33Ideal.nD Cert.Kernel33Ideal.τ).loc Cert.Kernel33Ideal.main_v3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v3) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v68) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m ((c.tc : Thread Cert.Kernel34Ideal.nD Cert.Kernel34Ideal.τ).loc Cert.Kernel34Ideal.main_arg0) = Layout.block ⟨2, ![2048, 2048]⟩ ⟨2, ![16384, 2048]⟩ 0 8 c (m' (((0 : Dev Cert.Reference34Ideal.nD).tc : Thread Cert.Reference34Ideal.nD Cert.Reference34Ideal.τ).loc Cert.Reference34Ideal.main_arg0))
      ∧ m ((c.tc : Thread Cert.Kernel34Ideal.nD Cert.Kernel34Ideal.τ).loc Cert.Kernel34Ideal.main_arg1) = Layout.block ⟨2, ![2048, 2048]⟩ ⟨2, ![16384, 2048]⟩ 0 8 c (m' (((0 : Dev Cert.Reference34Ideal.nD).tc : Thread Cert.Reference34Ideal.nD Cert.Reference34Ideal.τ).loc Cert.Reference34Ideal.main_arg1))
      ∧ m ((c.tc : Thread Cert.Kernel34Ideal.nD Cert.Kernel34Ideal.τ).loc Cert.Kernel34Ideal.main_arg2) = Layout.block ⟨2, ![2048, 2048]⟩ ⟨2, ![16384, 2048]⟩ 0 8 c (m' (((0 : Dev Cert.Reference34Ideal.nD).tc : Thread Cert.Reference34Ideal.nD Cert.Reference34Ideal.τ).loc Cert.Reference34Ideal.main_arg2))
      ∧ m ((c.tc : Thread Cert.Kernel34Ideal.nD Cert.Kernel34Ideal.τ).loc Cert.Kernel34Ideal.main_arg3) = Layout.block ⟨2, ![1, 2048]⟩ ⟨2, ![8, 2048]⟩ 0 8 c (m' (((0 : Dev Cert.Reference34Ideal.nD).tc : Thread Cert.Reference34Ideal.nD Cert.Reference34Ideal.τ).loc Cert.Reference34Ideal.main_arg3))
      ∧ m ((c.tc : Thread Cert.Kernel34Ideal.nD Cert.Kernel34Ideal.τ).loc Cert.Kernel34Ideal.main_arg4) = m' (((0 : Dev Cert.Reference34Ideal.nD).tc : Thread Cert.Reference34Ideal.nD Cert.Reference34Ideal.τ).loc Cert.Reference34Ideal.main_arg4)) →
    ∃ (v0 : Buf (Elt Ideal) (((0 : Dev Cert.Reference34Ideal.nD).tc : Thread Cert.Reference34Ideal.nD Cert.Reference34Ideal.τ).loc Cert.Reference34Ideal.main_v26)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4) = v0
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r =>
          r.2.mem (((0 : Dev Cert.Reference34Ideal.nD).tc : Thread Cert.Reference34Ideal.nD Cert.Reference34Ideal.τ).loc Cert.Reference34Ideal.main_v26) = v0
          ∧ r.2.mem (((0 : Dev Cert.Reference34Ideal.nD).tc : Thread Cert.Reference34Ideal.nD Cert.Reference34Ideal.τ).loc Cert.Reference34Ideal.main_arg0) = m' (((0 : Dev Cert.Reference34Ideal.nD).tc : Thread Cert.Reference34Ideal.nD Cert.Reference34Ideal.τ).loc Cert.Reference34Ideal.main_arg0)
          ∧ r.2.mem (((0 : Dev Cert.Reference34Ideal.nD).tc : Thread Cert.Reference34Ideal.nD Cert.Reference34Ideal.τ).loc Cert.Reference34Ideal.main_arg1) = m' (((0 : Dev Cert.Reference34Ideal.nD).tc : Thread Cert.Reference34Ideal.nD Cert.Reference34Ideal.τ).loc Cert.Reference34Ideal.main_arg1)
          ∧ r.2.mem (((0 : Dev Cert.Reference34Ideal.nD).tc : Thread Cert.Reference34Ideal.nD Cert.Reference34Ideal.τ).loc Cert.Reference34Ideal.main_arg2) = m' (((0 : Dev Cert.Reference34Ideal.nD).tc : Thread Cert.Reference34Ideal.nD Cert.Reference34Ideal.τ).loc Cert.Reference34Ideal.main_arg2)
          ∧ r.2.mem (((0 : Dev Cert.Reference34Ideal.nD).tc : Thread Cert.Reference34Ideal.nD Cert.Reference34Ideal.τ).loc Cert.Reference34Ideal.main_arg3) = m' (((0 : Dev Cert.Reference34Ideal.nD).tc : Thread Cert.Reference34Ideal.nD Cert.Reference34Ideal.τ).loc Cert.Reference34Ideal.main_arg3)
          ∧ r.2.mem (((0 : Dev Cert.Reference34Ideal.nD).tc : Thread Cert.Reference34Ideal.nD Cert.Reference34Ideal.τ).loc Cert.Reference34Ideal.main_arg4) = m' (((0 : Dev Cert.Reference34Ideal.nD).tc : Thread Cert.Reference34Ideal.nD Cert.Reference34Ideal.τ).loc Cert.Reference34Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Kernel.lean ====
abbrev S2048x6144 : Shape := ⟨2, ![2048, 6144]⟩
abbrev S3x1x2048 : Shape := ⟨3, ![3, 1, 2048]⟩
abbrev S2048x2048 : Shape := ⟨2, ![2048, 2048]⟩
abbrev S2048x256 : Shape := ⟨2, ![2048, 256]⟩
abbrev S3x1x256 : Shape := ⟨3, ![3, 1, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S3x1x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S3x1x2048, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x1x256, .f32⟩
  | .local _ .vmem, ⟨7, _⟩ => ⟨S3x1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S3x1x256, .f32⟩
  | .local _ .vmem, ⟨17, _⟩ => ⟨S3x1x256, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x6144 : Shape := ⟨2, ![2048, 6144]⟩
abbrev S3x1x2048 : Shape := ⟨3, ![3, 1, 2048]⟩
abbrev S2048x2048 : Shape := ⟨2, ![2048, 2048]⟩
abbrev S3x2048 : Shape := ⟨2, ![3, 2048]⟩
abbrev S_ : Shape := ⟨0, ![]⟩
abbrev S1x2048 : Shape := ⟨2, ![1, 2048]⟩
abbrev S2050x2048 : Shape := ⟨2, ![2050, 2048]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x1x2048, .f32⟩
  | .hbm, ⟨2, _⟩ => ⟨S2048x2048, .bf16⟩
  | .hbm, ⟨3, _⟩ => ⟨S2048x6144, .f32⟩
  | .hbm, ⟨4, _⟩ => ⟨S3x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S1x2048, .f32⟩
  | .hbm, ⟨10, _⟩ => ⟨S2048x2048, .f32⟩
  | .hbm, ⟨11, _⟩ => ⟨S2050x2048, .f32⟩
  | .hbm, ⟨12, _⟩ => ⟨S_, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S2048x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S3x2048, .f32⟩
  | .hbm, ⟨51, _⟩ => ⟨S_, .f32⟩
  | .hbm, ⟨52, _⟩ => ⟨S2050x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S3x2048, .f32⟩
  | .hbm, ⟨64, _⟩ => ⟨S3x2048, .f32⟩
  | .hbm, ⟨65, _⟩ => ⟨S_, .f32⟩
  | .hbm, ⟨66, _⟩ => ⟨S2050x2048, .f32⟩
  | .hbm, ⟨67, _⟩ => ⟨S2050x2048, .f32⟩
  | .hbm, ⟨68, _⟩ => ⟨S2048x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S_, .f32⟩
  | .hbm, ⟨78, _⟩ => ⟨S3x2048, .f32⟩
  | .hbm, ⟨79, _⟩ => ⟨S3x2048, .f32⟩
  | .hbm, ⟨80, _⟩ => ⟨S_, .f32⟩
  | .hbm, ⟨81, _⟩ => ⟨S2050x2048, .f32⟩
  | .hbm, ⟨82, _⟩ => ⟨S2050x2048, .f32⟩
  | .hbm, ⟨83, _⟩ => ⟨S1x2048, .f32⟩
  | .hbm, ⟨84, _⟩ => ⟨S2048x2048, .f32⟩
  | .hbm, ⟨85, _⟩ => ⟨S1x2048, .f32⟩
  | .hbm, ⟨86, _⟩ => ⟨S2048x2048, .f32⟩
  | .hbm, ⟨87, _⟩ => ⟨S2048x2048, .f32⟩
  | .hbm, ⟨88, _⟩ => ⟨S2048x6144, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .bf16⟩
  | .hbm, ⟨93, _⟩ => ⟨S2048x2048, .bf16⟩
  | .hbm, ⟨94, _⟩ => ⟨S2048x2048, .bf16⟩
  | .hbm, ⟨95, _⟩ => ⟨S3x1x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== Kernel2.lean ====
abbrev S2048x2048 : Shape := ⟨2, ![2048, 2048]⟩
abbrev S2048x11264 : Shape := ⟨2, ![2048, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S2048x2048 : Shape := ⟨2, ![2048, 2048]⟩
abbrev S2048x11264 : Shape := ⟨2, ![2048, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x11264 : Shape := ⟨2, ![2048, 11264]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x11264, .f32⟩
  | .hbm, ⟨5, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S2048x2048 : Shape := ⟨2, ![2048, 2048]⟩
abbrev S2048x11264 : Shape := ⟨2, ![2048, 11264]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S2048x2048 : Shape := ⟨2, ![2048, 2048]⟩
abbrev S2048x11264 : Shape := ⟨2, ![2048, 11264]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S2048x11264 : Shape := ⟨2, ![2048, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x2048 : Shape := ⟨2, ![2048, 2048]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S2048x2048 : Shape := ⟨2, ![2048, 2048]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x11264 : Shape := ⟨2, ![2048, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x11264, .bf16⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x2048, .f32⟩
  | .hbm, ⟨10, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x5632 : Shape := ⟨2, ![2048, 5632]⟩
abbrev S5632x2048 : Shape := ⟨2, ![5632, 2048]⟩
abbrev S2048x2048 : Shape := ⟨2, ![2048, 2048]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S2048x5632 : Shape := ⟨2, ![2048, 5632]⟩
abbrev S5632x2048 : Shape := ⟨2, ![5632, 2048]⟩
abbrev S2048x2048 : Shape := ⟨2, ![2048, 2048]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2048x5632 : Shape := ⟨2, ![2048, 5632]⟩
abbrev S5632x2048 : Shape := ⟨2, ![5632, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S2048x5632 : Shape := ⟨2, ![2048, 5632]⟩
abbrev S5632x2048 : Shape := ⟨2, ![5632, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x5632 : Shape := ⟨2, ![2048, 5632]⟩
abbrev S5632x2048 : Shape := ⟨2, ![5632, 2048]⟩
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S2048x5632 : Shape := ⟨2, ![2048, 5632]⟩
abbrev S5632x2048 : Shape := ⟨2, ![5632, 2048]⟩
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S2048x2048 : Shape := ⟨2, ![2048, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S2048x6144, .f32⟩
  | .hbm, ⟨5, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S2048x2048 : Shape := ⟨2, ![2048, 2048]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x6144 : Shape := ⟨2, ![2048, 6144]⟩
abbrev S6144x2048 : Shape := ⟨2, ![6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x2048 : Shape := ⟨2, ![2048, 2048]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S2048x2048 : Shape := ⟨2, ![2048, 2048]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x6144 : Shape := ⟨2, ![2048, 6144]⟩
abbrev S6144x2048 : Shape := ⟨2, ![6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x2048, .f32⟩
  | .hbm, ⟨10, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2304x2048 : Shape := ⟨2, ![2304, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S2304x2048 : Shape := ⟨2, ![2304, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2304x2048 : Shape := ⟨2, ![2304, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2304x2048 : Shape := ⟨2, ![2304, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2304x2048, .bf16⟩
  | .local _ .vmem, ⟨0, _⟩ => ⟨S768x2048, .f32⟩
  | .local _ .vmem, ⟨1, _⟩ => ⟨S768x2048, .f32⟩
  | .local _ .vmem, ⟨2, _⟩ => ⟨S1024x2048, .bf16⟩
  | .local _ .vmem, ⟨3, _⟩ => ⟨S1024x2048, .bf16⟩
  | .local _ .vmem, ⟨4, _⟩ => ⟨S768x1024, .bf16⟩
  | .local _ .vmem, ⟨5, _⟩ => ⟨S768x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2304x2048 : Shape := ⟨2, ![2304, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2048x2048, .f32⟩
  | .hbm, ⟨7, _⟩ => ⟨S2048x2048, .f32⟩
  | .hbm, ⟨8, _⟩ => ⟨S2304x2048, .f32⟩
  | .hbm, ⟨9, _⟩ => ⟨S2304x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S2304x2048 : Shape := ⟨2, ![2304, 2048]⟩
abbrev S2048x2048 : Shape := ⟨2, ![2048, 2048]⟩
abbrev S2304x512 : Shape := ⟨2, ![2304, 512]⟩
abbrev S2304x1024 : Shape := ⟨2, ![2304, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .bf16⟩
  | .local _ .vmem, ⟨0, _⟩ => ⟨S2304x512, .bf16⟩
  | .local _ .vmem, ⟨1, _⟩ => ⟨S2304x512, .bf16⟩
  | .local _ .vmem, ⟨2, _⟩ => ⟨S2304x1024, .f32⟩
  | .local _ .vmem, ⟨3, _⟩ => ⟨S2304x1024, .f32⟩
  | .local _ .vmem, ⟨4, _⟩ => ⟨S512x1024, .bf16⟩
  | .local _ .vmem, ⟨5, _⟩ => ⟨S512x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2304x2048 : Shape := ⟨2, ![2304, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2048x2048, .f32⟩
  | .hbm, ⟨7, _⟩ => ⟨S2048x2048, .f32⟩
  | .hbm, ⟨8, _⟩ => ⟨S2304x2048, .f32⟩
  | .hbm, ⟨9, _⟩ => ⟨S2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8x256x2048 : Shape := ⟨3, ![8, 256, 2048]⟩
abbrev S1x256x2048 : Shape := ⟨3, ![1, 256, 2048]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel17Ideal.lean ====
abbrev S8x256x2048 : Shape := ⟨3, ![8, 256, 2048]⟩
abbrev S1x256x2048 : Shape := ⟨3, ![1, 256, 2048]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S8x256x2048 : Shape := ⟨3, ![8, 256, 2048]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S8x2048x768 : Shape := ⟨3, ![8, 2048, 768]⟩
abbrev S1x2048x768 : Shape := ⟨3, ![1, 2048, 768]⟩
abbrev S8x256x768 : Shape := ⟨3, ![8, 256, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x768, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .local _ .vmem, ⟨0, _⟩ => ⟨S8x256x768, .bf16⟩
  | .local _ .vmem, ⟨1, _⟩ => ⟨S8x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S8x2048x768 : Shape := ⟨3, ![8, 2048, 768]⟩
abbrev S1x2048x768 : Shape := ⟨3, ![1, 2048, 768]⟩
abbrev S_ : Shape := ⟨0, ![]⟩
abbrev S2048x768 : Shape := ⟨2, ![2048, 768]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x768, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S8x2048x768, .f32⟩
  | .hbm, ⟨5, _⟩ => ⟨S_, .f32⟩
  | .hbm, ⟨6, _⟩ => ⟨S2048x768, .f32⟩
  | .hbm, ⟨7, _⟩ => ⟨S1x2048x768, .f32⟩
  | .hbm, ⟨8, _⟩ => ⟨S_, .f32⟩
  | .hbm, ⟨9, _⟩ => ⟨S1x2048x768, .f32⟩
  | .hbm, ⟨10, _⟩ => ⟨S1x2048x768, .f32⟩
  | .hbm, ⟨11, _⟩ => ⟨S_, .f32⟩
  | .hbm, ⟨12, _⟩ => ⟨S1x2048x768, .f32⟩
  | .hbm, ⟨13, _⟩ => ⟨S1x2048x768, .f32⟩
  | .hbm, ⟨14, _⟩ => ⟨S1x2048x768, .f32⟩
  | .hbm, ⟨15, _⟩ => ⟨S_, .f32⟩
  | .hbm, ⟨16, _⟩ => ⟨S1x2048x768, .f32⟩
  | .hbm, ⟨17, _⟩ => ⟨S1x2048x768, .f32⟩
  | .hbm, ⟨18, _⟩ => ⟨S1x2048x768, .f32⟩
  | .hbm, ⟨19, _⟩ => ⟨S_, .f32⟩
  | .hbm, ⟨20, _⟩ => ⟨S1x2048x768, .f32⟩
  | .hbm, ⟨21, _⟩ => ⟨S1x2048x768, .f32⟩
  | .hbm, ⟨22, _⟩ => ⟨S1x2048x768, .f32⟩
  | .hbm, ⟨23, _⟩ => ⟨S_, .f32⟩
  | .hbm, ⟨24, _⟩ => ⟨S1x2048x768, .f32⟩
  | .hbm, ⟨25, _⟩ => ⟨S1x2048x768, .f32⟩
  | .hbm, ⟨26, _⟩ => ⟨S_, .f32⟩
  | .hbm, ⟨27, _⟩ => ⟨S1x2048x768, .f32⟩
  | .hbm, ⟨28, _⟩ => ⟨S1x2048x768, .f32⟩
  | .hbm, ⟨29, _⟩ => ⟨S1x2048x768, .f32⟩
  | .hbm, ⟨30, _⟩ => ⟨S_, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S_, .f32⟩
  | .hbm, ⟨35, _⟩ => ⟨S1x2048x768, .f32⟩
  | .hbm, ⟨36, _⟩ => ⟨S1x2048x768, .f32⟩
  | .hbm, ⟨37, _⟩ => ⟨S1x2048x768, .f32⟩
  | .hbm, ⟨38, _⟩ => ⟨S_, .f32⟩
  | .hbm, ⟨39, _⟩ => ⟨S1x2048x768, .f32⟩
  | .hbm, ⟨40, _⟩ => ⟨S1x2048x768, .f32⟩
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S8x176x128 : Shape := ⟨3, ![8, 176, 128]⟩
abbrev S176x128 : Shape := ⟨2, ![176, 128]⟩
abbrev S1x176x128 : Shape := ⟨3, ![1, 176, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S176x128, .f32⟩
  | .hbm, ⟨5, _⟩ => ⟨S176x128, .f32⟩
  | .hbm, ⟨6, _⟩ => ⟨S176x128, .f32⟩
  | .hbm, ⟨7, _⟩ => ⟨S176x128, .f32⟩
  | .local _ .vmem, ⟨0, _⟩ => ⟨S8x176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | .local _ .vmem, ⟨7, _⟩ => ⟨S176x128, .f32⟩
  | _, _ => ⟨S8x176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel19Ideal.lean ====
abbrev S8x176x128 : Shape := ⟨3, ![8, 176, 128]⟩
abbrev S176x128 : Shape := ⟨2, ![176, 128]⟩
abbrev S1x176x128 : Shape := ⟨3, ![1, 176, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S176x128, .f32⟩
  | .hbm, ⟨5, _⟩ => ⟨S176x128, .f32⟩
  | .hbm, ⟨6, _⟩ => ⟨S176x128, .f32⟩
  | .hbm, ⟨7, _⟩ => ⟨S176x128, .f32⟩
  | .local _ .vmem, ⟨0, _⟩ => ⟨S8x176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | .local _ .vmem, ⟨7, _⟩ => ⟨S176x128, .f32⟩
  | _, _ => ⟨S8x176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S8x176x128 : Shape := ⟨3, ![8, 176, 128]⟩
abbrev S176x128 : Shape := ⟨2, ![176, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S_, .f32⟩
  | .hbm, ⟨5, _⟩ => ⟨S176x128, .f32⟩
  | .hbm, ⟨6, _⟩ => ⟨S_, .f32⟩
  | .hbm, ⟨7, _⟩ => ⟨S176x128, .f32⟩
  | .hbm, ⟨8, _⟩ => ⟨S176x128, .f32⟩
  | .hbm, ⟨9, _⟩ => ⟨S_, .f32⟩
  | .hbm, ⟨10, _⟩ => ⟨S176x128, .f32⟩
  | .hbm, ⟨11, _⟩ => ⟨S176x128, .f32⟩
  | .hbm, ⟨12, _⟩ => ⟨S176x128, .f32⟩
  | .hbm, ⟨13, _⟩ => ⟨S_, .f32⟩
  | .hbm, ⟨14, _⟩ => ⟨S176x128, .f32⟩
  | .hbm, ⟨15, _⟩ => ⟨S176x128, .f32⟩
  | .hbm, ⟨16, _⟩ => ⟨S176x128, .f32⟩
  | .hbm, ⟨17, _⟩ => ⟨S_, .f32⟩
  | .hbm, ⟨18, _⟩ => ⟨S176x128, .f32⟩
  | .hbm, ⟨19, _⟩ => ⟨S176x128, .f32⟩
  | .hbm, ⟨20, _⟩ => ⟨S176x128, .f32⟩
  | .hbm, ⟨21, _⟩ => ⟨S_, .f32⟩
  | .hbm, ⟨22, _⟩ => ⟨S176x128, .f32⟩
  | .hbm, ⟨23, _⟩ => ⟨S176x128, .f32⟩
  | .hbm, ⟨24, _⟩ => ⟨S_, .f32⟩
  | .hbm, ⟨25, _⟩ => ⟨S176x128, .f32⟩
  | .hbm, ⟨26, _⟩ => ⟨S176x128, .f32⟩
  | .hbm, ⟨27, _⟩ => ⟨S176x128, .f32⟩
  | .hbm, ⟨28, _⟩ => ⟨S_, .f32⟩
  | .hbm, ⟨29, _⟩ => ⟨S176x128, .f32⟩
  | .hbm, ⟨30, _⟩ => ⟨S176x128, .f32⟩
  | .hbm, ⟨31, _⟩ => ⟨S176x128, .f32⟩
  | .hbm, ⟨32, _⟩ => ⟨S_, .f32⟩
  | .hbm, ⟨33, _⟩ => ⟨S176x128, .f32⟩
  | .hbm, ⟨34, _⟩ => ⟨S176x128, .f32⟩
  | .hbm, ⟨35, _⟩ => ⟨S176x128, .f32⟩
  | .hbm, ⟨36, _⟩ => ⟨S_, .f32⟩
  | .hbm, ⟨37, _⟩ => ⟨S176x128, .f32⟩
  | .hbm, ⟨38, _⟩ => ⟨S176x128, .f32⟩
  | _, _ => ⟨S8x176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel20Ideal.lean ====
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference20Ideal.lean ====
abbrev S8x32x128 : Shape := ⟨3, ![8, 32, 128]⟩
abbrev S32x128 : Shape := ⟨2, ![32, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S32x128, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S32x128, .f32⟩
  | .hbm, ⟨17, _⟩ => ⟨S_, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S_, .f32⟩
  | .hbm, ⟨25, _⟩ => ⟨S32x128, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S_, .f32⟩
  | .hbm, ⟨37, _⟩ => ⟨S32x128, .f32⟩
  | .hbm, ⟨38, _⟩ => ⟨S32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x3072x128 : Shape := ⟨3, ![8, 3072, 128]⟩
abbrev S3072x128 : Shape := ⟨2, ![3072, 128]⟩
abbrev S8x1536x128 : Shape := ⟨3, ![8, 1536, 128]⟩
abbrev S1536x128 : Shape := ⟨2, ![1536, 128]⟩
abbrev S1x1536x128 : Shape := ⟨3, ![1, 1536, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x3072x128, .bf16⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S3072x128, .f32⟩
  | .hbm, ⟨5, _⟩ => ⟨S3072x128, .f32⟩
  | .hbm, ⟨6, _⟩ => ⟨S3072x128, .f32⟩
  | .hbm, ⟨7, _⟩ => ⟨S3072x128, .f32⟩
  | .local _ .vmem, ⟨0, _⟩ => ⟨S8x1536x128, .bf16⟩
  | .local _ .vmem, ⟨1, _⟩ => ⟨S8x1536x128, .bf16⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | .local _ .vmem, ⟨14, _⟩ => ⟨S1536x128, .f32⟩
  | .local _ .vmem, ⟨15, _⟩ => ⟨S1536x128, .f32⟩
  | _, _ => ⟨S8x3072x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel21Ideal.lean ====
abbrev S8x3072x128 : Shape := ⟨3, ![8, 3072, 128]⟩
abbrev S3072x128 : Shape := ⟨2, ![3072, 128]⟩
abbrev S8x1536x128 : Shape := ⟨3, ![8, 1536, 128]⟩
abbrev S1536x128 : Shape := ⟨2, ![1536, 128]⟩
abbrev S1x1536x128 : Shape := ⟨3, ![1, 1536, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x3072x128, .bf16⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S3072x128, .f32⟩
  | .hbm, ⟨5, _⟩ => ⟨S3072x128, .f32⟩
  | .hbm, ⟨6, _⟩ => ⟨S3072x128, .f32⟩
  | .hbm, ⟨7, _⟩ => ⟨S3072x128, .f32⟩
  | .local _ .vmem, ⟨0, _⟩ => ⟨S8x1536x128, .bf16⟩
  | .local _ .vmem, ⟨1, _⟩ => ⟨S8x1536x128, .bf16⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | .local _ .vmem, ⟨14, _⟩ => ⟨S1536x128, .f32⟩
  | .local _ .vmem, ⟨15, _⟩ => ⟨S1536x128, .f32⟩
  | _, _ => ⟨S8x3072x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference21Ideal.lean ====
abbrev S8x3072x128 : Shape := ⟨3, ![8, 3072, 128]⟩
abbrev S3072x128 : Shape := ⟨2, ![3072, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x3072x128, .bf16⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S8x3072x128, .f32⟩
  | .hbm, ⟨5, _⟩ => ⟨S_, .f32⟩
  | .hbm, ⟨6, _⟩ => ⟨S3072x128, .f32⟩
  | .hbm, ⟨7, _⟩ => ⟨S_, .f32⟩
  | .hbm, ⟨8, _⟩ => ⟨S3072x128, .f32⟩
  | .hbm, ⟨9, _⟩ => ⟨S3072x128, .f32⟩
  | .hbm, ⟨10, _⟩ => ⟨S_, .f32⟩
  | .hbm, ⟨11, _⟩ => ⟨S3072x128, .f32⟩
  | .hbm, ⟨12, _⟩ => ⟨S3072x128, .f32⟩
  | .hbm, ⟨13, _⟩ => ⟨S3072x128, .f32⟩
  | .hbm, ⟨14, _⟩ => ⟨S_, .f32⟩
  | .hbm, ⟨15, _⟩ => ⟨S3072x128, .f32⟩
  | .hbm, ⟨16, _⟩ => ⟨S3072x128, .f32⟩
  | .hbm, ⟨17, _⟩ => ⟨S3072x128, .f32⟩
  | .hbm, ⟨18, _⟩ => ⟨S_, .f32⟩
  | .hbm, ⟨19, _⟩ => ⟨S3072x128, .f32⟩
  | .hbm, ⟨20, _⟩ => ⟨S3072x128, .f32⟩
  | .hbm, ⟨21, _⟩ => ⟨S3072x128, .f32⟩
  | .hbm, ⟨22, _⟩ => ⟨S_, .f32⟩
  | .hbm, ⟨23, _⟩ => ⟨S3072x128, .f32⟩
  | .hbm, ⟨24, _⟩ => ⟨S3072x128, .f32⟩
  | .hbm, ⟨25, _⟩ => ⟨S_, .f32⟩
  | .hbm, ⟨26, _⟩ => ⟨S3072x128, .f32⟩
  | .hbm, ⟨27, _⟩ => ⟨S3072x128, .f32⟩
  | .hbm, ⟨28, _⟩ => ⟨S3072x128, .f32⟩
  | .hbm, ⟨29, _⟩ => ⟨S_, .f32⟩
  | .hbm, ⟨30, _⟩ => ⟨S3072x128, .f32⟩
  | .hbm, ⟨31, _⟩ => ⟨S3072x128, .f32⟩
  | .hbm, ⟨32, _⟩ => ⟨S3072x128, .f32⟩
  | .hbm, ⟨33, _⟩ => ⟨S_, .f32⟩
  | .hbm, ⟨34, _⟩ => ⟨S3072x128, .f32⟩
  | .hbm, ⟨35, _⟩ => ⟨S3072x128, .f32⟩
  | .hbm, ⟨36, _⟩ => ⟨S3072x128, .f32⟩
  | .hbm, ⟨37, _⟩ => ⟨S_, .f32⟩
  | .hbm, ⟨38, _⟩ => ⟨S3072x128, .f32⟩
  | .hbm, ⟨39, _⟩ => ⟨S3072x128, .f32⟩
  | _, _ => ⟨S8x3072x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S1x12x2048 : Shape := ⟨3, ![1, 12, 2048]⟩
abbrev S12x2048 : Shape := ⟨2, ![12, 2048]⟩
abbrev S1x12x1024 : Shape := ⟨3, ![1, 12, 1024]⟩
abbrev S12x1024 : Shape := ⟨2, ![12, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x12x2048, .f32⟩
  | .hbm, ⟨1, _⟩ => ⟨S12x2048, .f32⟩
  | .hbm, ⟨2, _⟩ => ⟨S12x2048, .f32⟩
  | .hbm, ⟨3, _⟩ => ⟨S12x2048, .f32⟩
  | .hbm, ⟨4, _⟩ => ⟨S12x2048, .f32⟩
  | .hbm, ⟨5, _⟩ => ⟨S12x2048, .f32⟩
  | .hbm, ⟨6, _⟩ => ⟨S12x2048, .f32⟩
  | .hbm, ⟨7, _⟩ => ⟨S12x2048, .f32⟩
  | .local _ .vmem, ⟨0, _⟩ => ⟨S1x12x1024, .f32⟩
  | .local _ .vmem, ⟨1, _⟩ => ⟨S1x12x1024, .f32⟩
  | .local _ .vmem, ⟨2, _⟩ => ⟨S12x1024, .f32⟩
  | .local _ .vmem, ⟨3, _⟩ => ⟨S12x1024, .f32⟩
  | .local _ .vmem, ⟨4, _⟩ => ⟨S12x1024, .f32⟩
  | .local _ .vmem, ⟨5, _⟩ => ⟨S12x1024, .f32⟩
  | .local _ .vmem, ⟨6, _⟩ => ⟨S12x1024, .f32⟩
  | .local _ .vmem, ⟨7, _⟩ => ⟨S12x1024, .f32⟩
  | .local _ .vmem, ⟨8, _⟩ => ⟨S12x1024, .f32⟩
  | .local _ .vmem, ⟨9, _⟩ => ⟨S12x1024, .f32⟩
  | .local _ .vmem, ⟨10, _⟩ => ⟨S12x1024, .f32⟩
  | .local _ .vmem, ⟨11, _⟩ => ⟨S12x1024, .f32⟩
  | .local _ .vmem, ⟨12, _⟩ => ⟨S12x1024, .f32⟩
  | .local _ .vmem, ⟨13, _⟩ => ⟨S12x1024, .f32⟩
  | .local _ .vmem, ⟨14, _⟩ => ⟨S12x1024, .f32⟩
  | .local _ .vmem, ⟨15, _⟩ => ⟨S12x1024, .f32⟩
  | _, _ => ⟨S1x12x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x12x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S12x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S12x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S12x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S12x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S12x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S12x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S12x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference22Ideal.lean ====
abbrev S1x12x2048 : Shape := ⟨3, ![1, 12, 2048]⟩
abbrev S12x2048 : Shape := ⟨2, ![12, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x12x2048, .f32⟩
  | .hbm, ⟨1, _⟩ => ⟨S12x2048, .f32⟩
  | .hbm, ⟨2, _⟩ => ⟨S12x2048, .f32⟩
  | .hbm, ⟨3, _⟩ => ⟨S12x2048, .f32⟩
  | .hbm, ⟨4, _⟩ => ⟨S_, .f32⟩
  | .hbm, ⟨5, _⟩ => ⟨S12x2048, .f32⟩
  | .hbm, ⟨6, _⟩ => ⟨S_, .f32⟩
  | .hbm, ⟨7, _⟩ => ⟨S12x2048, .f32⟩
  | .hbm, ⟨8, _⟩ => ⟨S12x2048, .f32⟩
  | .hbm, ⟨9, _⟩ => ⟨S_, .f32⟩
  | .hbm, ⟨10, _⟩ => ⟨S12x2048, .f32⟩
  | .hbm, ⟨11, _⟩ => ⟨S12x2048, .f32⟩
  | .hbm, ⟨12, _⟩ => ⟨S12x2048, .f32⟩
  | .hbm, ⟨13, _⟩ => ⟨S_, .f32⟩
  | .hbm, ⟨14, _⟩ => ⟨S12x2048, .f32⟩
  | .hbm, ⟨15, _⟩ => ⟨S12x2048, .f32⟩
  | .hbm, ⟨16, _⟩ => ⟨S12x2048, .f32⟩
  | .hbm, ⟨17, _⟩ => ⟨S_, .f32⟩
  | .hbm, ⟨18, _⟩ => ⟨S12x2048, .f32⟩
  | .hbm, ⟨19, _⟩ => ⟨S12x2048, .f32⟩
  | .hbm, ⟨20, _⟩ => ⟨S12x2048, .f32⟩
  | .hbm, ⟨21, _⟩ => ⟨S_, .f32⟩
  | .hbm, ⟨22, _⟩ => ⟨S12x2048, .f32⟩
  | .hbm, ⟨23, _⟩ => ⟨S12x2048, .f32⟩
  | .hbm, ⟨24, _⟩ => ⟨S_, .f32⟩
  | .hbm, ⟨25, _⟩ => ⟨S12x2048, .f32⟩
  | .hbm, ⟨26, _⟩ => ⟨S12x2048, .f32⟩
  | .hbm, ⟨27, _⟩ => ⟨S12x2048, .f32⟩
  | .hbm, ⟨28, _⟩ => ⟨S_, .f32⟩
  | .hbm, ⟨29, _⟩ => ⟨S12x2048, .f32⟩
  | .hbm, ⟨30, _⟩ => ⟨S12x2048, .f32⟩
  | .hbm, ⟨31, _⟩ => ⟨S12x2048, .f32⟩
  | .hbm, ⟨32, _⟩ => ⟨S_, .f32⟩
  | .hbm, ⟨33, _⟩ => ⟨S12x2048, .f32⟩
  | .hbm, ⟨34, _⟩ => ⟨S12x2048, .f32⟩
  | .hbm, ⟨35, _⟩ => ⟨S12x2048, .f32⟩
  | .hbm, ⟨36, _⟩ => ⟨S_, .f32⟩
  | .hbm, ⟨37, _⟩ => ⟨S12x2048, .f32⟩
  | .hbm, ⟨38, _⟩ => ⟨S12x2048, .f32⟩
  | _, _ => ⟨S1x12x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8x2048x1408 : Shape := ⟨3, ![8, 2048, 1408]⟩
abbrev S2x2048x1408 : Shape := ⟨3, ![2, 2048, 1408]⟩
abbrev S8x2048x128 : Shape := ⟨3, ![8, 2048, 128]⟩
abbrev S1x2048x128 : Shape := ⟨3, ![1, 2048, 128]⟩
abbrev S2048x128 : Shape := ⟨2, ![2048, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .local _ .vmem, ⟨0, _⟩ => ⟨S8x2048x128, .bf16⟩
  | .local _ .vmem, ⟨1, _⟩ => ⟨S8x2048x128, .bf16⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S8x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel23Ideal.lean ====
abbrev S8x2048x1408 : Shape := ⟨3, ![8, 2048, 1408]⟩
abbrev S2x2048x1408 : Shape := ⟨3, ![2, 2048, 1408]⟩
abbrev S8x2048x128 : Shape := ⟨3, ![8, 2048, 128]⟩
abbrev S1x2048x128 : Shape := ⟨3, ![1, 2048, 128]⟩
abbrev S2048x128 : Shape := ⟨2, ![2048, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .local _ .vmem, ⟨0, _⟩ => ⟨S8x2048x128, .bf16⟩
  | .local _ .vmem, ⟨1, _⟩ => ⟨S8x2048x128, .bf16⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S8x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference23Ideal.lean ====
abbrev S8x2048x1408 : Shape := ⟨3, ![8, 2048, 1408]⟩
abbrev S2x2048x1408 : Shape := ⟨3, ![2, 2048, 1408]⟩
abbrev S1x2048x1408 : Shape := ⟨3, ![1, 2048, 1408]⟩
abbrev S2048x1408 : Shape := ⟨2, ![2048, 1408]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S1x2048x1408, .f32⟩
  | .hbm, ⟨9, _⟩ => ⟨S2048x1408, .f32⟩
  | .hbm, ⟨10, _⟩ => ⟨S8x2048x1408, .f32⟩
  | .hbm, ⟨11, _⟩ => ⟨S_, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | .hbm, ⟨50, _⟩ => ⟨S1x2048x1408, .f32⟩
  | .hbm, ⟨51, _⟩ => ⟨S2048x1408, .f32⟩
  | .hbm, ⟨52, _⟩ => ⟨S1x2048x1408, .f32⟩
  | .hbm, ⟨53, _⟩ => ⟨S1x2048x1408, .f32⟩
  | .hbm, ⟨54, _⟩ => ⟨S2x2048x1408, .f32⟩
  | .hbm, ⟨55, _⟩ => ⟨S1x2048x1408, .f32⟩
  | .hbm, ⟨56, _⟩ => ⟨S2048x1408, .f32⟩
  | .hbm, ⟨57, _⟩ => ⟨S1x2048x1408, .f32⟩
  | .hbm, ⟨58, _⟩ => ⟨S1x2048x1408, .f32⟩
  | .hbm, ⟨59, _⟩ => ⟨S2x2048x1408, .f32⟩
  | .hbm, ⟨60, _⟩ => ⟨S1x2048x1408, .f32⟩
  | .hbm, ⟨61, _⟩ => ⟨S2048x1408, .f32⟩
  | .hbm, ⟨62, _⟩ => ⟨S1x2048x1408, .f32⟩
  | .hbm, ⟨63, _⟩ => ⟨S1x2048x1408, .f32⟩
  | .hbm, ⟨64, _⟩ => ⟨S2x2048x1408, .f32⟩
  | .hbm, ⟨65, _⟩ => ⟨S1x2048x1408, .f32⟩
  | .hbm, ⟨66, _⟩ => ⟨S2048x1408, .f32⟩
  | .hbm, ⟨67, _⟩ => ⟨S1x2048x1408, .f32⟩
  | .hbm, ⟨68, _⟩ => ⟨S1x2048x1408, .f32⟩
  | .hbm, ⟨69, _⟩ => ⟨S2x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel24.lean ====
abbrev S8x704x2048 : Shape := ⟨3, ![8, 704, 2048]⟩
abbrev S2x704x2048 : Shape := ⟨3, ![2, 704, 2048]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel24Ideal.lean ====
abbrev S8x704x2048 : Shape := ⟨3, ![8, 704, 2048]⟩
abbrev S2x704x2048 : Shape := ⟨3, ![2, 704, 2048]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S8x704x2048 : Shape := ⟨3, ![8, 704, 2048]⟩
abbrev S2x704x2048 : Shape := ⟨3, ![2, 704, 2048]⟩
abbrev S1x704x2048 : Shape := ⟨3, ![1, 704, 2048]⟩
abbrev S704x2048 : Shape := ⟨2, ![704, 2048]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S1x704x2048, .f32⟩
  | .hbm, ⟨9, _⟩ => ⟨S704x2048, .f32⟩
  | .hbm, ⟨10, _⟩ => ⟨S8x704x2048, .f32⟩
  | .hbm, ⟨11, _⟩ => ⟨S_, .f32⟩
  | .hbm, ⟨12, _⟩ => ⟨S704x2048, .f32⟩
  | .hbm, ⟨13, _⟩ => ⟨S1x704x2048, .f32⟩
  | .hbm, ⟨14, _⟩ => ⟨S704x2048, .f32⟩
  | .hbm, ⟨15, _⟩ => ⟨S1x704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S1x704x2048, .f32⟩
  | .hbm, ⟨51, _⟩ => ⟨S704x2048, .f32⟩
  | .hbm, ⟨52, _⟩ => ⟨S1x704x2048, .f32⟩
  | .hbm, ⟨53, _⟩ => ⟨S1x704x2048, .f32⟩
  | .hbm, ⟨54, _⟩ => ⟨S2x704x2048, .f32⟩
  | .hbm, ⟨55, _⟩ => ⟨S1x704x2048, .f32⟩
  | .hbm, ⟨56, _⟩ => ⟨S704x2048, .f32⟩
  | .hbm, ⟨57, _⟩ => ⟨S1x704x2048, .f32⟩
  | .hbm, ⟨58, _⟩ => ⟨S1x704x2048, .f32⟩
  | .hbm, ⟨59, _⟩ => ⟨S2x704x2048, .f32⟩
  | .hbm, ⟨60, _⟩ => ⟨S1x704x2048, .f32⟩
  | .hbm, ⟨61, _⟩ => ⟨S704x2048, .f32⟩
  | .hbm, ⟨62, _⟩ => ⟨S1x704x2048, .f32⟩
  | .hbm, ⟨63, _⟩ => ⟨S1x704x2048, .f32⟩
  | .hbm, ⟨64, _⟩ => ⟨S2x704x2048, .f32⟩
  | .hbm, ⟨65, _⟩ => ⟨S1x704x2048, .f32⟩
  | .hbm, ⟨66, _⟩ => ⟨S704x2048, .f32⟩
  | .hbm, ⟨67, _⟩ => ⟨S1x704x2048, .f32⟩
  | .hbm, ⟨68, _⟩ => ⟨S1x704x2048, .f32⟩
  | .hbm, ⟨69, _⟩ => ⟨S2x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel25.lean ====
abbrev S1x2048x1536 : Shape := ⟨3, ![1, 2048, 1536]⟩
abbrev S2x2048x1536 : Shape := ⟨3, ![2, 2048, 1536]⟩
abbrev S1x256x768 : Shape := ⟨3, ![1, 256, 768]⟩
abbrev S256x768 : Shape := ⟨2, ![256, 768]⟩

abbrev nBuf : Space → Nat
  | .hbm => 12
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S2x2048x1536, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S1x2048x1536 : Shape := ⟨3, ![1, 2048, 1536]⟩
abbrev S2x2048x1536 : Shape := ⟨3, ![2, 2048, 1536]⟩
abbrev S2048x1536 : Shape := ⟨2, ![2048, 1536]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S1x2048x1536, .f32⟩
  | .hbm, ⟨9, _⟩ => ⟨S2048x1536, .f32⟩
  | .hbm, ⟨10, _⟩ => ⟨S_, .f32⟩
  | .hbm, ⟨11, _⟩ => ⟨S2048x1536, .f32⟩
  | .hbm, ⟨12, _⟩ => ⟨S1x2048x1536, .f32⟩
  | .hbm, ⟨13, _⟩ => ⟨S2048x1536, .f32⟩
  | .hbm, ⟨14, _⟩ => ⟨S1x2048x1536, .f32⟩
  | .hbm, ⟨15, _⟩ => ⟨S2048x1536, .f32⟩
  | .hbm, ⟨16, _⟩ => ⟨S_, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S_, .f32⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S_, .f32⟩
  | .hbm, ⟨28, _⟩ => ⟨S2048x1536, .f32⟩
  | .hbm, ⟨29, _⟩ => ⟨S2048x1536, .f32⟩
  | .hbm, ⟨30, _⟩ => ⟨S2048x1536, .f32⟩
  | .hbm, ⟨31, _⟩ => ⟨S_, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S2048x1536, .f32⟩
  | .hbm, ⟨42, _⟩ => ⟨S_, .f32⟩
  | .hbm, ⟨43, _⟩ => ⟨S2048x1536, .f32⟩
  | .hbm, ⟨44, _⟩ => ⟨S2048x1536, .f32⟩
  | .hbm, ⟨45, _⟩ => ⟨S2048x1536, .f32⟩
  | .hbm, ⟨46, _⟩ => ⟨S_, .f32⟩
  | .hbm, ⟨47, _⟩ => ⟨S2048x1536, .f32⟩
  | .hbm, ⟨48, _⟩ => ⟨S2048x1536, .f32⟩
  | .hbm, ⟨49, _⟩ => ⟨S1x2048x1536, .f32⟩
  | .hbm, ⟨50, _⟩ => ⟨S2048x1536, .f32⟩
  | .hbm, ⟨51, _⟩ => ⟨S1x2048x1536, .f32⟩
  | .hbm, ⟨52, _⟩ => ⟨S1x2048x1536, .f32⟩
  | .hbm, ⟨53, _⟩ => ⟨S2x2048x1536, .f32⟩
  | .hbm, ⟨54, _⟩ => ⟨S1x2048x1536, .f32⟩
  | .hbm, ⟨55, _⟩ => ⟨S2048x1536, .f32⟩
  | .hbm, ⟨56, _⟩ => ⟨S1x2048x1536, .f32⟩
  | .hbm, ⟨57, _⟩ => ⟨S1x2048x1536, .f32⟩
  | .hbm, ⟨58, _⟩ => ⟨S2x2048x1536, .f32⟩
  | .hbm, ⟨59, _⟩ => ⟨S1x2048x1536, .f32⟩
  | .hbm, ⟨60, _⟩ => ⟨S2048x1536, .f32⟩
  | .hbm, ⟨61, _⟩ => ⟨S1x2048x1536, .f32⟩
  | .hbm, ⟨62, _⟩ => ⟨S1x2048x1536, .f32⟩
  | .hbm, ⟨63, _⟩ => ⟨S2x2048x1536, .f32⟩
  | .hbm, ⟨64, _⟩ => ⟨S1x2048x1536, .f32⟩
  | .hbm, ⟨65, _⟩ => ⟨S2048x1536, .f32⟩
  | .hbm, ⟨66, _⟩ => ⟨S1x2048x1536, .f32⟩
  | .hbm, ⟨67, _⟩ => ⟨S1x2048x1536, .f32⟩
  | .hbm, ⟨68, _⟩ => ⟨S2x2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel26.lean ====
abbrev S2048x2048 : Shape := ⟨2, ![2048, 2048]⟩
abbrev S1x1x2048 : Shape := ⟨3, ![1, 1, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S2048x2048, .f32⟩
  | .hbm, ⟨7, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel26Ideal.lean ====
abbrev S2048x2048 : Shape := ⟨2, ![2048, 2048]⟩
abbrev S1x1x2048 : Shape := ⟨3, ![1, 1, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S2048x2048, .f32⟩
  | .hbm, ⟨7, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference26Ideal.lean ====
abbrev S2048x2048 : Shape := ⟨2, ![2048, 2048]⟩
abbrev S1x1x2048 : Shape := ⟨3, ![1, 1, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel27.lean ====
abbrev S2048x2048 : Shape := ⟨2, ![2048, 2048]⟩
abbrev S1x1x2048 : Shape := ⟨3, ![1, 1, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .hbm, ⟨13, _⟩ => ⟨S1x1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v67 : BitVec 1 := Scalar.cmpi .eq arg1 c0_i32
  let v68 : BitVec 32 := Scalar.extui v67
  let c0_i32_31 : BitVec 32 := 0#32
  let v69 : BitVec 1 := Scalar.cmpi .ne v68 c0_i32_31
  v69

def k0_cond2 (i : grid0.Coords) : BitVec 1 :=
  let arg1 : BitVec 32 := BitVec.ofNat 32 (i 1).val
  let c0_i32 : BitVec 32 := 0#32
  let v67 : BitVec 1 := Scalar.cmpi .eq arg1 c0_i32
  let v_true : BitVec 1 := 1#1
  let v70 : BitVec 1 := Scalar.xori v67 v_true
  let v71 : BitVec 32 := Scalar.extui v70
  let c0_i32_32 : BitVec 32 := 0#32
  let v72 : BitVec 1 := Scalar.cmpi .ne v71 c0_i32_32
  v72

def k0_cond3 (i : grid0.Coords) : BitVec 1 :=
  let arg1 : BitVec 32 := BitVec.ofNat 32 (i 1).val
  let c0_i32_33 : BitVec 32 := 0#32
  let v73 : BitVec 1 := Scalar.cmpi .eq arg1 c0_i32_33
  let v74 : BitVec 32 := Scalar.extui v73
  let c0_i32_34 : BitVec 32 := 0#32
  let v75 : BitVec 1 := Scalar.cmpi .ne v74 c0_i32_34
  v75

def k0_cond4 (i : grid0.Coords) : BitVec 1 :=
  let arg1 : BitVec 32 := BitVec.ofNat 32 (i 1).val
  let c0_i32_33 : BitVec 32 := 0#32
  let v73 : BitVec 1 := Scalar.cmpi .eq arg1 c0_i32_33
  let true_35 : BitVec 1 := 1#1
  let v76 : BitVec 1 := Scalar.xori v73 true_35
  let v77 : BitVec 32 := Scalar.extui v76
  let c0_i32_36 : BitVec 32 := 0#32
  let v78 : BitVec 1 := Scalar.cmpi .ne v77 c0_i32_36
  v78

def k0_cond5 (i : grid0.Coords) : BitVec 1 :=
  let arg1 : BitVec 32 := BitVec.ofNat 32 (i 1).val
  let c0_i32_37 : BitVec 32 := 0#32
  let v79 : BitVec 1 := Scalar.cmpi .eq arg1 c0_i32_37
  let v80 : BitVec 32 := Scalar.extui v79
  let c0_i32_38 : BitVec 32 := 0#32
  let v81 : BitVec 1 := Scalar.cmpi .ne v80 c0_i32_38
  v81

def k0_cond6 (i : grid0.Coords) : BitVec 1 :=
  let arg1 : BitVec 32 := BitVec.ofNat 32 (i 1).val
  let c0_i32_37 : BitVec 32 := 0#32
  let v79 : BitVec 1 := Scalar.cmpi .eq arg1 c0_i32_37
  let true_39 : BitVec 1 := 1#1
  let v82 : BitVec 1 := Scalar.xori v79 true_39
  let v83 : BitVec 32 := Scalar.extui v82
  let c0_i32_40 : BitVec 32 := 0#32
  let v84 : BitVec 1 := Scalar.cmpi .ne v83 c0_i32_40
  v84

def k0_cond7 (i : grid0.Coords) : BitVec 1 :=
  let arg1 : BitVec 32 := BitVec.ofNat 32 (i 1).val
  let c0_i32_41 : BitVec 32 := 0#32
  let v85 : BitVec 1 := Scalar.cmpi .eq arg1 c0_i32_41
  let v86 : BitVec 32 := Scalar.extui v85
  let c0_i32_42 : BitVec 32 := 0#32
  let v87 : BitVec 1 := Scalar.cmpi .ne v86 c0_i32_42
  v87

def k0_cond8 (i : grid0.Coords) : BitVec 1 :=
  let arg1 : BitVec 32 := BitVec.ofNat 32 (i 1).val
  let c0_i32_41 : BitVec 32 := 0#32
  let v85 : BitVec 1 := Scalar.cmpi .eq arg1 c0_i32_41
  let true_43 : BitVec 1 := 1#1
  let v88 : BitVec 1 := Scalar.xori v85 true_43
  let v89 : BitVec 32 := Scalar.extui v88
  let c0_i32_44 : BitVec 32 := 0#32
  let v90 : BitVec 1 := Scalar.cmpi .ne v89 c0_i32_44
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== Reference27Ideal.lean ====
abbrev S2048x2048 : Shape := ⟨2, ![2048, 2048]⟩
abbrev S1x1x2048 : Shape := ⟨3, ![1, 1, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 87
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S1x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S1x1x2048, .f32⟩
  | .hbm, ⟨53, _⟩ => ⟨S1x1x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S1x1x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S1x1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Kernel28.lean ====
abbrev S2304x2048 : Shape := ⟨2, ![2304, 2048]⟩
abbrev S1x1x2048 : Shape := ⟨3, ![1, 1, 2048]⟩
abbrev S2x1x2048 : Shape := ⟨3, ![2, 1, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩

abbrev nBuf : Space → Nat
  | .hbm => 5
  | .vmem => 9
  | .smem => 0
  | _ => 0

abbrev bufTy : (tb : Table) → Fin (tcTables nBuf tb) → BufTy
  | .hbm, ⟨0, _⟩ => ⟨S2304x2048, .f32⟩
  | .hbm, ⟨1, _⟩ => ⟨S1x1x2048, .f32⟩
  | .hbm, ⟨2, _⟩ => ⟨S2x1x2048, .f32⟩
  | .hbm, ⟨3, _⟩ => ⟨S2x1x2048, .f32⟩
  | .hbm, ⟨4, _⟩ => ⟨S2304x2048, .f32⟩
  | .local _ .vmem, ⟨0, _⟩ => ⟨S128x2048, .f32⟩
  | .local _ .vmem, ⟨1, _⟩ => ⟨S128x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S128x2048, .f32⟩
  | .local _ .vmem, ⟨8, _⟩ => ⟨S128x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  ![v1.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  ![v1.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference28Ideal.lean ====
abbrev S2304x2048 : Shape := ⟨2, ![2304, 2048]⟩
abbrev S1x1x2048 : Shape := ⟨3, ![1, 1, 2048]⟩
abbrev S2x1x2048 : Shape := ⟨3, ![2, 1, 2048]⟩
abbrev S1x2048 : Shape := ⟨2, ![1, 2048]⟩
abbrev S_ : Shape := ⟨0, ![]⟩
abbrev S2304 : Shape := ⟨1, ![2304]⟩
abbrev S2304x1 : Shape := ⟨2, ![2304, 1]⟩
abbrev S256x2048 : Shape := ⟨2, ![256, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S1x1x2048, .f32⟩
  | .hbm, ⟨2, _⟩ => ⟨S2x1x2048, .f32⟩
  | .hbm, ⟨3, _⟩ => ⟨S2x1x2048, .f32⟩
  | .hbm, ⟨4, _⟩ => ⟨S1x2048, .f32⟩
  | .hbm, ⟨5, _⟩ => ⟨S2304x2048, .f32⟩
  | .hbm, ⟨6, _⟩ => ⟨S_, .f32⟩
  | .hbm, ⟨7, _⟩ => ⟨S2304, .f32⟩
  | .hbm, ⟨8, _⟩ => ⟨S2304x1, .f32⟩
  | .hbm, ⟨9, _⟩ => ⟨S_, .f32⟩
  | .hbm, ⟨10, _⟩ => ⟨S2304x1, .f32⟩
  | .hbm, ⟨11, _⟩ => ⟨S2304x1, .f32⟩
  | .hbm, ⟨12, _⟩ => ⟨S_, .f32⟩
  | .hbm, ⟨13, _⟩ => ⟨S2304x1, .f32⟩
  | .hbm, ⟨14, _⟩ => ⟨S2304x1, .f32⟩
  | .hbm, ⟨15, _⟩ => ⟨S2304x1, .f32⟩
  | .hbm, ⟨16, _⟩ => ⟨S2304x2048, .f32⟩
  | .hbm, ⟨17, _⟩ => ⟨S2304x2048, .f32⟩
  | .hbm, ⟨18, _⟩ => ⟨S2304x2048, .f32⟩
  | .hbm, ⟨19, _⟩ => ⟨S2304x2048, .f32⟩
  | .hbm, ⟨20, _⟩ => ⟨S256x2048, .f32⟩
  | .hbm, ⟨21, _⟩ => ⟨S1x1x2048, .f32⟩
  | .hbm, ⟨22, _⟩ => ⟨S1x2048, .f32⟩
  | .hbm, ⟨23, _⟩ => ⟨S1x1x2048, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S2048x2048, .f32⟩
  | .hbm, ⟨33, _⟩ => ⟨S1x1x2048, .f32⟩
  | .hbm, ⟨34, _⟩ => ⟨S1x2048, .f32⟩
  | .hbm, ⟨35, _⟩ => ⟨S1x1x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel29.lean ====
abbrev S2048x11264 : Shape := ⟨2, ![2048, 11264]⟩
abbrev S2048x5632 : Shape := ⟨2, ![2048, 5632]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S2048x11264, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference29Ideal.lean ====
abbrev S2048x11264 : Shape := ⟨2, ![2048, 11264]⟩
abbrev S2048x5632 : Shape := ⟨2, ![2048, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .bf16⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .bf16⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_v12 : Ref sig .tc := ⟨.hbm, 29, rfl⟩

abbrev nD : Nat := 1
abbrev τ : Topo := Topo.v7x

variable {F : FTy → Type} [FloatOps F]
-- ==== Kernel30.lean ====
abbrev S2048x11264 : Shape := ⟨2, ![2048, 11264]⟩
abbrev S2048x5632 : Shape := ⟨2, ![2048, 5632]⟩
abbrev S512x512 : Shape := ⟨2, ![512, 512]⟩

abbrev nBuf : Space → Nat
  | .hbm => 2
  | .vmem => 6
  | .smem => 0
  | _ => 0

abbrev bufTy : (tb : Table) → Fin (tcTables nBuf tb) → BufTy
  | .hbm, ⟨0, _⟩ => ⟨S2048x11264, .bf16⟩
  | .hbm, ⟨1, _⟩ => ⟨S2048x5632, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S2048x11264 : Shape := ⟨2, ![2048, 11264]⟩
abbrev S2048x5632 : Shape := ⟨2, ![2048, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x5632, .bf16⟩
  | .hbm, ⟨2, _⟩ => ⟨S2048x5632, .bf16⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Kernel31.lean ====
abbrev S2048x2048 : Shape := ⟨2, ![2048, 2048]⟩
abbrev S1x2048 : Shape := ⟨2, ![1, 2048]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S1x128 : Shape := ⟨2, ![1, 128]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S8x128, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S1x2048, .f32⟩
  | .local _ .vmem, ⟨8, _⟩ => ⟨S8x128, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference31Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel32.lean ====
abbrev S2048x6144 : Shape := ⟨2, ![2048, 6144]⟩
abbrev S3x1x2048 : Shape := ⟨3, ![3, 1, 2048]⟩
abbrev S2048x2048 : Shape := ⟨2, ![2048, 2048]⟩
abbrev S2048x256 : Shape := ⟨2, ![2048, 256]⟩
abbrev S3x1x256 : Shape := ⟨3, ![3, 1, 256]⟩
abbrev S1x1x256 : Shape := ⟨3, ![1, 1, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x6144, .bf16⟩
  | .hbm, ⟨1, _⟩ => ⟨S3x1x2048, .f32⟩
  | .hbm, ⟨2, _⟩ => ⟨S2048x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x1x256, .f32⟩
  | .local _ .vmem, ⟨7, _⟩ => ⟨S3x1x256, .f32⟩
  | .local _ .vmem, ⟨8, _⟩ => ⟨S2048x256, .bf16⟩
  | .local _ .vmem, ⟨9, _⟩ => ⟨S2048x256, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S2048x6144 : Shape := ⟨2, ![2048, 6144]⟩
abbrev S3x1x2048 : Shape := ⟨3, ![3, 1, 2048]⟩
abbrev S3x2048 : Shape := ⟨2, ![3, 2048]⟩
abbrev S2048x2048 : Shape := ⟨2, ![2048, 2048]⟩
abbrev S_ : Shape := ⟨0, ![]⟩
abbrev S1x2048 : Shape := ⟨2, ![1, 2048]⟩
abbrev S2050x2048 : Shape := ⟨2, ![2050, 2048]⟩
abbrev S2048 : Shape := ⟨1, ![2048]⟩

abbrev nBuf : Space → Nat
  | .hbm => 33
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x1x2048, .f32⟩
  | .hbm, ⟨2, _⟩ => ⟨S2048x6144, .f32⟩
  | .hbm, ⟨3, _⟩ => ⟨S3x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S1x2048, .f32⟩
  | .hbm, ⟨9, _⟩ => ⟨S2048x2048, .f32⟩
  | .hbm, ⟨10, _⟩ => ⟨S2050x2048, .f32⟩
  | .hbm, ⟨11, _⟩ => ⟨S2048x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Kernel33.lean ====
abbrev S256x2048 : Shape := ⟨2, ![256, 2048]⟩
abbrev S2048x2048 : Shape := ⟨2, ![2048, 2048]⟩
abbrev S1x1x2048 : Shape := ⟨3, ![1, 1, 2048]⟩
abbrev S2x1x2048 : Shape := ⟨3, ![2, 1, 2048]⟩
abbrev S2304x2048 : Shape := ⟨2, ![2304, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩
abbrev S2048 : Shape := ⟨1, ![2048]⟩

abbrev nBuf : Space → Nat
  | .hbm => 14
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S1x1x2048, .f32⟩
  | .hbm, ⟨3, _⟩ => ⟨S2x1x2048, .f32⟩
  | .hbm, ⟨4, _⟩ => ⟨S2x1x2048, .f32⟩
  | .hbm, ⟨5, _⟩ => ⟨S2304x2048, .f32⟩
  | .hbm, ⟨6, _⟩ => ⟨S2048x2048, .f32⟩
  | .hbm, ⟨7, _⟩ => ⟨S2304x2048, .f32⟩
  | .hbm, ⟨8, _⟩ => ⟨S2304x2048, .f32⟩
  | .hbm, ⟨9, _⟩ => ⟨S1x1x2048, .f32⟩
  | .hbm, ⟨10, _⟩ => ⟨S2x1x2048, .f32⟩
  | .hbm, ⟨11, _⟩ => ⟨S2x1x2048, .f32⟩
  | .hbm, ⟨12, _⟩ => ⟨S2048x2048, .f32⟩
  | .hbm, ⟨13, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 18], ![false, false]⟩

def k0_cond1 (i : grid0.Coords) : BitVec 1 :=
  let arg1 : BitVec 32 := BitVec.ofNat 32 (i 1).val
  let c0_i32 : BitVec 32 := 0#32
  let v53 : BitVec 1 := Scalar.cmpi .eq arg1 c0_i32
  let v54 : BitVec 32 := Scalar.extui v53
  let c0_i32_21 : BitVec 32 := 0#32
  let v55 : BitVec 1 := Scalar.cmpi .ne v54 c0_i32_21
  v55

def k0_cond2 (i : grid0.Coords) : BitVec 1 :=
  let arg1 : BitVec 32 := BitVec.ofNat 32 (i 1).val
  let c0_i32 : BitVec 32 := 0#32
  let v53 : BitVec 1 := Scalar.cmpi .eq arg1 c0_i32
  let v_true : BitVec 1 := 1#1
  let v56 : BitVec 1 := Scalar.xori v53 v_true
  let v57 : BitVec 32 := Scalar.extui v56
  let c0_i32_22 : BitVec 32 := 0#32
  let v58 : BitVec 1 := Scalar.cmpi .ne v57 c0_i32_22
  v58

def k0_cond3 (i : grid0.Coords) : BitVec 1 :=
  let arg1 : BitVec 32 := BitVec.ofNat 32 (i 1).val
  let c0_i32_23 : BitVec 32 := 0#32
  let v59 : BitVec 1 := Scalar.cmpi .eq arg1 c0_i32_23
  let c2_i32 : BitVec 32 := 2#32
  let v60 : BitVec 1 := Scalar.cmpi .eq arg1 c2_i32
  let v61 : BitVec 1 := Scalar.ori v59 v60
  let v62 : BitVec 32 := Scalar.extui v61
  let c0_i32_24 : BitVec 32 := 0#32
  let v63 : BitVec 1 := Scalar.cmpi .ne v62 c0_i32_24
  v63

def k0_cond4 (i : grid0.Coords) : BitVec 1 :=
  let arg1 : BitVec 32 := BitVec.ofNat 32 (i 1).val
  let c0_i32_23 : BitVec 32 := 0#32
  let v59 : BitVec 1 := Scalar.cmpi .eq arg1 c0_i32_23
  let c2_i32 : BitVec 32 := 2#32
  let v60 : BitVec 1 := Scalar.cmpi .eq arg1 c2_i32
  let v61 : BitVec 1 := Scalar.ori v59 v60
  let true_25 : BitVec 1 := 1#1
  let v64 : BitVec 1 := Scalar.xori v61 true_25
  let v65 : BitVec 32 := Scalar.extui v64
  let c0_i32_26 : BitVec 32 := 0#32
  let v66 : BitVec 1 := Scalar.cmpi .ne v65 c0_i32_26
  v66

def k0_cond5 (i : grid0.Coords) : BitVec 1 :=
  let arg1 : BitVec 32 := BitVec.ofNat 32 (i 1).val
  let c0_i32_27 : BitVec 32 := 0#32
  let v67 : BitVec 1 := Scalar.cmpi .eq arg1 c0_i32_27
  let c2_i32_28 : BitVec 32 := 2#32
  let v68 : BitVec 1 := Scalar.cmpi .eq arg1 c2_i32_28
  let v69 : BitVec 1 := Scalar.ori v67 v68
  let v70 : BitVec 32 := Scalar.extui v69
  let c0_i32_29 : BitVec 32 := 0#32
  let v71 : BitVec 1 := Scalar.cmpi .ne v70 c0_i32_29
  v71

def k0_cond6 (i : grid0.Coords) : BitVec 1 :=
  let arg1 : BitVec 32 := BitVec.ofNat 32 (i 1).val
  let c0_i32_27 : BitVec 32 := 0#32
  let v67 : BitVec 1 := Scalar.cmpi .eq arg1 c0_i32_27
  let c2_i32_28 : BitVec 32 := 2#32
  let v68 : BitVec 1 := Scalar.cmpi .eq arg1 c2_i32_28
  let v69 : BitVec 1 := Scalar.ori v67 v68
  let true_30 : BitVec 1 := 1#1
  let v72 : BitVec 1 := Scalar.xori v69 true_30
  let v73 : BitVec 32 := Scalar.extui v72
  let c0_i32_31 : BitVec 32 := 0#32
  let v74 : BitVec 1 := Scalar.cmpi .ne v73 c0_i32_31
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  ![v1.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  ![v1.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  ![v1.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  ![v1.toNat, c0_i32_0.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference33Ideal.lean ====
abbrev S256x2048 : Shape := ⟨2, ![256, 2048]⟩
abbrev S2048x2048 : Shape := ⟨2, ![2048, 2048]⟩
abbrev S1x1x2048 : Shape := ⟨3, ![1, 1, 2048]⟩
abbrev S2x1x2048 : Shape := ⟨3, ![2, 1, 2048]⟩
abbrev S2304x2048 : Shape := ⟨2, ![2304, 2048]⟩
abbrev S_ : Shape := ⟨0, ![]⟩
abbrev S1x2048 : Shape := ⟨2, ![1, 2048]⟩
abbrev S2304 : Shape := ⟨1, ![2304]⟩
abbrev S2304x1 : Shape := ⟨2, ![2304, 1]⟩

abbrev nBuf : Space → Nat
  | .hbm => 88
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S1x1x2048, .f32⟩
  | .hbm, ⟨3, _⟩ => ⟨S2x1x2048, .f32⟩
  | .hbm, ⟨4, _⟩ => ⟨S2x1x2048, .f32⟩
  | .hbm, ⟨5, _⟩ => ⟨S2304x2048, .f32⟩
  | .hbm, ⟨6, _⟩ => ⟨S2048x2048, .f32⟩
  | .hbm, ⟨7, _⟩ => ⟨S2304x2048, .f32⟩
  | .hbm, ⟨8, _⟩ => ⟨S_, .f32⟩
  | .hbm, ⟨9, _⟩ => ⟨S256x2048, .f32⟩
  | .hbm, ⟨10, _⟩ => ⟨S1x2048, .f32⟩
  | .hbm, ⟨11, _⟩ => ⟨S2304x2048, .f32⟩
  | .hbm, ⟨12, _⟩ => ⟨S_, .f32⟩
  | .hbm, ⟨13, _⟩ => ⟨S2304, .f32⟩
  | .hbm, ⟨14, _⟩ => ⟨S2304x1, .f32⟩
  | .hbm, ⟨15, _⟩ => ⟨S_, .f32⟩
  | .hbm, ⟨16, _⟩ => ⟨S2304x1, .f32⟩
  | .hbm, ⟨17, _⟩ => ⟨S2304x1, .f32⟩
  | .hbm, ⟨18, _⟩ => ⟨S_, .f32⟩
  | .hbm, ⟨19, _⟩ => ⟨S2304x1, .f32⟩
  | .hbm, ⟨20, _⟩ => ⟨S2304x1, .f32⟩
  | .hbm, ⟨21, _⟩ => ⟨S2304x1, .f32⟩
  | .hbm, ⟨22, _⟩ => ⟨S2304x1, .f32⟩
  | .hbm, ⟨23, _⟩ => ⟨S_, .f32⟩
  | .hbm, ⟨24, _⟩ => ⟨S2304x1, .f32⟩
  | .hbm, ⟨25, _⟩ => ⟨S2304x1, .f32⟩
  | .hbm, ⟨26, _⟩ => ⟨S2304x2048, .f32⟩
  | .hbm, ⟨27, _⟩ => ⟨S2304x2048, .f32⟩
  | .hbm, ⟨28, _⟩ => ⟨S2304x2048, .f32⟩
  | .hbm, ⟨29, _⟩ => ⟨S2304x2048, .f32⟩
  | .hbm, ⟨30, _⟩ => ⟨S256x2048, .f32⟩
  | .hbm, ⟨31, _⟩ => ⟨S1x1x2048, .f32⟩
  | .hbm, ⟨32, _⟩ => ⟨S1x2048, .f32⟩
  | .hbm, ⟨33, _⟩ => ⟨S1x1x2048, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S2048x2048, .f32⟩
  | .hbm, ⟨43, _⟩ => ⟨S1x1x2048, .f32⟩
  | .hbm, ⟨44, _⟩ => ⟨S1x2048, .f32⟩
  | .hbm, ⟨45, _⟩ => ⟨S1x1x2048, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2304x2048, .f32⟩
  | .hbm, ⟨55, _⟩ => ⟨S256x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2304x2048, .f32⟩
  | .hbm, ⟨61, _⟩ => ⟨S256x2048, .f32⟩
  | .hbm, ⟨62, _⟩ => ⟨S256x2048, .f32⟩
  | .hbm, ⟨63, _⟩ => ⟨S_, .f32⟩
  | .hbm, ⟨64, _⟩ => ⟨S2304x2048, .f32⟩
  | .hbm, ⟨65, _⟩ => ⟨S2304x2048, .f32⟩
  | .hbm, ⟨66, _⟩ => ⟨S2304x2048, .f32⟩
  | .hbm, ⟨67, _⟩ => ⟨S2304x2048, .f32⟩
  | .hbm, ⟨68, _⟩ => ⟨S2304x2048, .f32⟩
  | .hbm, ⟨69, _⟩ => ⟨S_, .f32⟩
  | .hbm, ⟨70, _⟩ => ⟨S2304, .f32⟩
  | .hbm, ⟨71, _⟩ => ⟨S2304x1, .f32⟩
  | .hbm, ⟨72, _⟩ => ⟨S2304x2048, .f32⟩
  | .hbm, ⟨73, _⟩ => ⟨S2304x2048, .f32⟩
  | .hbm, ⟨74, _⟩ => ⟨S2304x1, .f32⟩
  | .hbm, ⟨75, _⟩ => ⟨S_, .f32⟩
  | .hbm, ⟨76, _⟩ => ⟨S2304x1, .f32⟩
  | .hbm, ⟨77, _⟩ => ⟨S2304x1, .f32⟩
  | .hbm, ⟨78, _⟩ => ⟨S_, .f32⟩
  | .hbm, ⟨79, _⟩ => ⟨S2304, .f32⟩
  | .hbm, ⟨80, _⟩ => ⟨S2304x2048, .f32⟩
  | .hbm, ⟨81, _⟩ => ⟨S2304x2048, .f32⟩
  | .hbm, ⟨82, _⟩ => ⟨S2304x2048, .f32⟩
  | .hbm, ⟨83, _⟩ => ⟨S2304x2048, .f32⟩
  | .hbm, ⟨84, _⟩ => ⟨S2304x2048, .f32⟩
  | .hbm, ⟨85, _⟩ => ⟨S256x2048, .f32⟩
  | .hbm, ⟨86, _⟩ => ⟨S2048x2048, .f32⟩
  | .hbm, ⟨87, _⟩ => ⟨S2048x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel34.lean ====
abbrev S2048x2048 : Shape := ⟨2, ![2048, 2048]⟩
abbrev S1x2048 : Shape := ⟨2, ![1, 2048]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S1x128 : Shape := ⟨2, ![1, 128]⟩
abbrev S1 : Shape := ⟨1, ![1]⟩
abbrev S1x1 : Shape := ⟨2, ![1, 1]⟩
abbrev S2048 : Shape := ⟨1, ![2048]⟩
abbrev S_ : Shape := ⟨0, ![]⟩

abbrev nBuf : Space → Nat
  | .hbm => 21
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S8x128, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S1x2048, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S1x2048, .f32⟩
  | .local _ .vmem, ⟨8, _⟩ => ⟨S8x128, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | _ => false

abbrev sig : RefSig :=
  ofTc nBuf bufTy 1 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v4_s0 : Ref sig .tc := ⟨.hbm, 13, rfl⟩
abbrev main_v4_s1 : Ref sig .tc := ⟨.hbm, 14, rfl⟩
abbrev main_v4_s2 : Ref sig .tc := ⟨.hbm, 15, rfl⟩
abbrev main_v4_s3 : Ref sig .tc := ⟨.hbm, 16, rfl⟩
abbrev main_v4_s4 : Ref sig .tc := ⟨.hbm, 17, rfl⟩
abbrev main_v4_s5 : Ref sig .tc := ⟨.hbm, 18, rfl⟩
abbrev main_v4_s6 : Ref sig .tc := ⟨.hbm, 19, rfl⟩
abbrev main_v4_s7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev ar0_recv : DmaSem sig := 15
abbrev ar0_send : DmaSem sig := 16
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference34Ideal.lean ====
abbrev S16384x2048 : Shape := ⟨2, ![16384, 2048]⟩
abbrev S8x2048 : Shape := ⟨2, ![8, 2048]⟩
abbrev S1x2048 : Shape := ⟨2, ![1, 2048]⟩
abbrev S8x2048x2048 : Shape := ⟨3, ![8, 2048, 2048]⟩
abbrev S8x1x2048 : Shape := ⟨3, ![8, 1, 2048]⟩
abbrev S_ : Shape := ⟨0, ![]⟩
abbrev S8x2048x1 : Shape := ⟨3, ![8, 2048, 1]⟩
abbrev S1x1x2048 : Shape := ⟨3, ![1, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S8x2048, .f32⟩
  | .hbm, ⟨4, _⟩ => ⟨S1x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x1x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Conv.lean ====
/-
  The value of the short convolution's gradient, kernel and reference, at the ideal instance: both leave, index by
  index, ONE function of the three arguments — `gradGb`, `gradGc`, `gradU` and `gradW` below — in the four results.

  Write `z = gc · u` (token by channel) and `g = gb · dp`. The forward convolution reads `z` one token back, in place and one
  token on, with zeros past the two ends; its gradient by `gb` is that sum times `dp`, its gradient by `z` reads `g` one token
  on, in place and one token back, and its gradient by a tap is the sum over the tokens of `g` times the `z` which the tap
  reads. The kernel moves rows by a rotation and a mask, channel block by channel block; the reference by slices of an
  array padded with zero rows, and by pads.
-/
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Tactic.CleanTypes

public import Idealize.ShloMosaic.Lib.Claim

@[expose] public section

set_option maxRecDepth 16384
set_option maxHeartbeats 4000000

noncomputable section

namespace Cert.Proof.Conv

open Idealize.ShloMosaic Idealize.ShloMosaic.TcCoe Idealize.SL.Sem
open Cert.KernelIdeal Cert.KernelIdeal.Gen

/-! ## The gradient, index by index -/

/-- The value of `f` at the token before `r`, zero before the first. -/
def before (f : Fin 2048 → EReal) (r : Fin 2048) : EReal := if r.val < 1 then 0 else f ⟨r.val - 1, by omega⟩

/-- The value of `f` at the token after `r`, zero after the last. -/
def after (f : Fin 2048 → EReal) (r : Fin 2048) : EReal := if h : r.val + 1 < 2048 then f ⟨r.val + 1, h⟩ else 0

/-- Channel `l` of the `k`-th third of the gates' columns. -/
def col (k : Fin 3) (l : Fin 2048) : Fin 6144 := ⟨2048 * k.val + l.val, by omega⟩

variable (guc : S2048x6144.Idx → EReal) (cw : S3x1x2048.Idx → EReal) (dp : S2048x2048.Idx → EReal)

/-- What the convolution reads: the second gate times the value. -/
def z (l r : Fin 2048) : EReal := guc (ix2 r (col 1 l)) * guc (ix2 r (col 2 l))

/-- The cotangent of the convolution: the first gate times the result's cotangent. -/
def g (l r : Fin 2048) : EReal := guc (ix2 r (col 0 l)) * dp (ix2 r l)

/-- The gradient by the first gate. -/
def gradGb (r l : Fin 2048) : EReal :=
  dp (ix2 r l) * (before (z guc l) r * cw (ix3 0 0 l) + z guc l r * cw (ix3 1 0 l) + after (z guc l) r * cw (ix3 2 0 l))

/-- The gradient by what the convolution reads. -/
def gradZ (r l : Fin 2048) : EReal :=
  after (g guc dp l) r * cw (ix3 0 0 l) + g guc dp l r * cw (ix3 1 0 l) + before (g guc dp l) r * cw (ix3 2 0 l)

/-- The gradient by the second gate. -/
def gradGc (r l : Fin 2048) : EReal := gradZ guc cw dp r l * guc (ix2 r (col 2 l))

/-- The gradient by the value. -/
def gradU (r l : Fin 2048) : EReal := gradZ guc cw dp r l * guc (ix2 r (col 1 l))

/-- What tap `k` reads at token `r`. -/
def tap (k : Fin 3) (l r : Fin 2048) : EReal :=
  if k.val = 0 then before (z guc l) r else if k.val = 1 then z guc l r else after (z guc l) r

/-- The gradient by a tap. -/
def gradW (k : Fin 3) (l : Fin 2048) : EReal := ∑ r : Fin 2048, g guc dp l r * tap guc k l r

/-! ## The two ways of moving a row -/

/-- The kernel's row before: a rotation by one, masked at row 0. -/
theorem select_before (f : Fin 2048 → EReal) (r : Fin 2048) (h : (r.val + 2048 - 1) % 2048 < 2048) :
    Scalar.select (IntOp.cmpi .sge (BitVec.ofNat 32 r.val) 1#32) (f ⟨(r.val + 2048 - 1) % 2048, h⟩) 0 = before f r := by
  have hb : IntOp.cmpi .sge (BitVec.ofNat 32 r.val) 1#32 = BitVec.ofBool (decide (1 ≤ r.val)) := by
    revert r; decide +kernel
  rw [hb]; unfold before
  by_cases h1 : r.val < 1
  · have h3 : ¬ 1 ≤ r.val := by omega
    simp [h1, h3, Scalar.select]
  · have h2 : (⟨(r.val + 2048 - 1) % 2048, h⟩ : Fin 2048) = ⟨r.val - 1, by omega⟩ := by exact Fin.ext (by show (r.val + 2048 - 1) % 2048 = r.val - 1; omega)
    have h3 : 1 ≤ r.val := by omega
    rw [h2]; simp [h1, h3, Scalar.select]

/-- The kernel's row after: a rotation by 2047, masked at row 2047. -/
theorem select_after (f : Fin 2048 → EReal) (r : Fin 2048) (h : (r.val + 2048 - 2047) % 2048 < 2048) :
    Scalar.select (IntOp.cmpi .slt (BitVec.ofNat 32 r.val) 2047#32) (f ⟨(r.val + 2048 - 2047) % 2048, h⟩) 0 = after f r := by
  have hb : IntOp.cmpi .slt (BitVec.ofNat 32 r.val) 2047#32 = BitVec.ofBool (decide (r.val + 1 < 2048)) := by
    revert r; decide +kernel
  rw [hb]; unfold after
  by_cases h1 : r.val + 1 < 2048
  · have h2 : (⟨(r.val + 2048 - 2047) % 2048, h⟩ : Fin 2048) = ⟨r.val + 1, h1⟩ := by exact Fin.ext (by show (r.val + 2048 - 2047) % 2048 = r.val + 1; omega)
    rw [h2]; simp [h1, Scalar.select]
  · simp [h1, Scalar.select]

theorem before_mul (f : Fin 2048 → EReal) (r : Fin 2048) (w : EReal) : before (fun r => f r * w) r = before f r * w := by
  unfold before; split <;> simp

theorem after_mul (f : Fin 2048 → EReal) (r : Fin 2048) (w : EReal) : after (fun r => f r * w) r = after f r * w := by
  unfold after; split <;> simp

/-! ## The kernel -/

section
variable (m : (ℓ : Loc nD τ sig) → Buf (Elt Ideal) ℓ) (c : Dev nD)

abbrev guc_ : S2048x6144.Idx → EReal := m ((c.tc : Thread nD τ).loc main_arg0)
abbrev cw_ : S3x1x2048.Idx → EReal := m ((c.tc : Thread nD τ).loc main_arg1)
abbrev dp_ : S2048x2048.Idx → EReal := m ((c.tc : Thread nD τ).loc main_arg2)

/-- Channel `l` of grid point `t`'s block. -/
def ch (t : Fin cfg0.N) (l : Fin 256) : Fin 2048 := ⟨256 * t.val + l.val, by have : t.val < 8 := t.isLt; omega⟩

theorem idx : ∀ t : Fin cfg0.N, win0_0.index t = ![0, t.val] ∧ win0_1.index t = ![0, 8 + t.val] ∧ win0_2.index t = ![0, 16 + t.val]
    ∧ win0_3.index t = ![0, 0, t.val] ∧ win0_4.index t = ![0, t.val] ∧ win0_5.index t = ![0, t.val] ∧ win0_6.index t = ![0, t.val]
    ∧ win0_7.index t = ![0, t.val] ∧ win0_8.index t = ![0, 0, t.val] :=
  (by decide +kernel : ∀ t : Fin grid0.N, _)

theorem blk_dp (t : Fin cfg0.N) (r : Fin 2048) (l : Fin 256) : iblk m c 4 t (ix2 r l) = dp_ m c (ix2 r (ch t l)) := by
  unfold ch
  blk_ext [iblk, V, idx t]
theorem blk_gc (t : Fin cfg0.N) (r : Fin 2048) (l : Fin 256) : iblk m c 1 t (ix2 r l) = guc_ m c (ix2 r (col 1 (ch t l))) := by
  unfold ch col
  blk_ext [iblk, V, idx t]
theorem blk_u (t : Fin cfg0.N) (r : Fin 2048) (l : Fin 256) : iblk m c 2 t (ix2 r l) = guc_ m c (ix2 r (col 2 (ch t l))) := by
  unfold ch col
  blk_ext [iblk, V, idx t]
theorem blk_cw (t : Fin cfg0.N) (k : Fin 3) (l : Fin 256) : iblk m c 3 t (ix3 k 0 l) = cw_ m c (ix3 k 0 (ch t l)) := by
  unfold ch
  blk_ext [iblk, V, idx t]
theorem blk_gb (t : Fin cfg0.N) (r : Fin 2048) (l : Fin 256) : iblk m c 0 t (ix2 r l) = guc_ m c (ix2 r (col 0 (ch t l))) := by
  unfold ch col
  blk_ext [iblk, V, idx t]

/-- Where an element of block `t` of a result stands. -/
theorem emb5 (t : Fin cfg0.N) (r : Fin 2048) (l : Fin 256) :
    ((View.whole main_v0_0).slice (win0_5.rect t)).emb (ix2 r l) = ix2 r (ch t l) := by
  unfold ch; blk_ext [idx t]
theorem emb6 (t : Fin cfg0.N) (r : Fin 2048) (l : Fin 256) :
    ((View.whole main_v0_1).slice (win0_6.rect t)).emb (ix2 r l) = ix2 r (ch t l) := by
  unfold ch; blk_ext [idx t]
theorem emb7 (t : Fin cfg0.N) (r : Fin 2048) (l : Fin 256) :
    ((View.whole main_v0_2).slice (win0_7.rect t)).emb (ix2 r l) = ix2 r (ch t l) := by
  unfold ch; blk_ext [idx t]
theorem emb8 (t : Fin cfg0.N) (k : Fin 3) (l : Fin 256) :
    ((View.whole main_v0_3).slice (win0_8.rect t)).emb (ix3 k 0 l) = ix3 k 0 (ch t l) := by
  unfold ch; blk_ext [idx t]

/-- The four results as arrays. -/
def G5 : S2048x2048.Idx → EReal := fun i => gradGb (guc_ m c) (cw_ m c) (dp_ m c) (i 0) (i 1)
def G6 : S2048x2048.Idx → EReal := fun i => gradGc (guc_ m c) (cw_ m c) (dp_ m c) (i 0) (i 1)
def G7 : S2048x2048.Idx → EReal := fun i => gradU (guc_ m c) (cw_ m c) (dp_ m c) (i 0) (i 1)
def G8 : S3x1x2048.Idx → EReal := fun i => gradW (guc_ m c) (dp_ m c) (i 0) (i 2)

theorem final5 : (dats m 0 c).arrAt 5 cfg0.N = G5 m c := by
  refine (dats m 0 c).arrAt_eq_of_covers 5 _ (by decide +kernel) fun t hf y => ?_
  blk_simp
  rw [after0_5]
  frame_out
  idx_vars y
  refine Eq.trans ?_ (congrArg (G5 m c) (emb5 t y0 y1)).symm
  unfold_payloads
  pointwise
  simp only [blk_dp, blk_gb, blk_gc, blk_u, blk_cw]
  show _ = gradGb _ _ _ y0 (ch t y1)
  unfold gradGb
  have hB := select_before (fun r => z (guc_ m c) (ch t y1) r * cw_ m c (ix3 0 0 (ch t y1))) y0
  have hA := select_after (fun r => z (guc_ m c) (ch t y1) r * cw_ m c (ix3 2 0 (ch t y1))) y0
  simp only [before_mul, after_mul] at hB hA
  rw [← hA (Nat.mod_lt _ (by decide)), ← hB (Nat.mod_lt _ (by decide))]
  rfl

theorem gradZ_eq (r l : Fin 2048) (h : (r.val + 2048 - 1) % 2048 < 2048) (h' : (r.val + 2048 - 2047) % 2048 < 2048) :
    Scalar.select (IntOp.cmpi CmpIPredicate.slt (BitVec.ofNat 32 r.val) 2047#32)
        (dp (ix2 ⟨(r.val + 2048 - 2047) % 2048, h'⟩ l) * guc (ix2 ⟨(r.val + 2048 - 2047) % 2048, h'⟩ (col 0 l)) * cw (ix3 0 0 l)) 0
      + dp (ix2 r l) * guc (ix2 r (col 0 l)) * cw (ix3 1 0 l)
      + Scalar.select (IntOp.cmpi CmpIPredicate.sge (BitVec.ofNat 32 r.val) 1#32)
        (dp (ix2 ⟨(r.val + 2048 - 1) % 2048, h⟩ l) * guc (ix2 ⟨(r.val + 2048 - 1) % 2048, h⟩ (col 0 l)) * cw (ix3 2 0 l)) 0
    = gradZ guc cw dp r l := by
  have hB := select_before (fun r => g guc dp l r * cw (ix3 2 0 l)) r h
  have hA := select_after (fun r => g guc dp l r * cw (ix3 0 0 l)) r h'
  simp only [before_mul, after_mul] at hB hA
  unfold gradZ
  rw [← hA, ← hB]
  simp only [g, mul_comm (dp _)]

theorem final6 : (dats m 0 c).arrAt 6 cfg0.N = G6 m c := by
  refine (dats m 0 c).arrAt_eq_of_covers 6 _ (by decide +kernel) fun t hf y => ?_
  blk_simp
  rw [after0_6]
  frame_out
  idx_vars y
  refine Eq.trans ?_ (congrArg (G6 m c) (emb6 t y0 y1)).symm
  unfold_payloads
  pointwise
  simp only [blk_dp, blk_gb, blk_gc, blk_u, blk_cw]
  rw [gradZ_eq]
  rfl

theorem final7 : (dats m 0 c).arrAt 7 cfg0.N = G7 m c := by
  refine (dats m 0 c).arrAt_eq_of_covers 7 _ (by decide +kernel) fun t hf y => ?_
  blk_simp
  rw [after0_7]
  frame_out
  idx_vars y
  refine Eq.trans ?_ (congrArg (G7 m c) (emb7 t y0 y1)).symm
  unfold_payloads
  pointwise
  simp only [blk_dp, blk_gb, blk_gc, blk_u, blk_cw]
  rw [gradZ_eq]
  rfl

theorem select_mul (b : BitVec 1) (x y : EReal) : Scalar.select b (x * y) 0 = x * Scalar.select b y 0 := by
  unfold Scalar.select; split <;> simp

theorem fam8 (t : Fin cfg0.N) (k : Fin 3) (l : Fin 256) :
    Cert.KernelIdeal.Value.Fam8_0 (F := Ideal) (iblk m c 4 t) (iblk m c 0 t) (iblk m c 1 t) (iblk m c 2 t) k (ix1 l)
      = gradW (guc_ m c) (dp_ m c) k (ch t l) := by
  have hB := select_before (z (guc_ m c) (ch t l))
  have hA := select_after (z (guc_ m c) (ch t l))
  unfold z at hA hB
  match k with
  | 0 =>
    pointwise [k0_pay7, k0_pay6, k0_pay5, k0_pay4]
    refine Finset.sum_congr rfl fun x _ => ?_
    simp only [blk_dp, blk_gb, blk_gc, blk_u, select_mul, hB, mul_comm (dp_ m c _)]
    rfl
  | 1 =>
    pointwise
    refine Finset.sum_congr rfl fun x _ => ?_
    simp only [blk_dp, blk_gb, blk_gc, blk_u, mul_comm (dp_ m c _)]
    rfl
  | 2 =>
    pointwise [k0_pay8, k0_pay6, k0_pay5, k0_pay4]
    refine Finset.sum_congr rfl fun x _ => ?_
    simp only [blk_dp, blk_gb, blk_gc, blk_u, select_mul, hA, mul_comm (dp_ m c _)]
    rfl

theorem final8 : (dats m 0 c).arrAt 8 cfg0.N = G8 m c := by
  refine (dats m 0 c).arrAt_eq_of_covers 8 _ (by decide +kernel) fun t hf y => ?_
  blk_simp
  rw [after0_8]
  frame_out
  unfold k0_pay18 k0_pay17
  simp (disch := decide) only [View.ld_unit_lit]
  refine (Cert.KernelIdeal.Value.canon8_eq (F := Ideal) (iblk m c 4 t) (iblk m c 0 t) (iblk m c 1 t) (iblk m c 2 t) y).trans ?_
  idx_vars y
  obtain rfl : y1 = 0 := Subsingleton.elim _ _
  refine Eq.trans ?_ (congrArg (G8 m c) (emb8 t y0 y2)).symm
  refine Eq.trans ?_ (fam8 m c t y0 y2)
  exact congrArg _ (eq_ix1 _)

end

/-! ## The reference -/

/-- A slice of the array padded with one zero row at either end, one token back. -/
theorem slice_before (f : Fin 2048 → EReal) (r : Fin 2048) :
    (if _ : r.val < 1 then 0 else if h : r.val - 1 < 2048 then f ⟨r.val - 1, h⟩ else 0) = before f r := by
  unfold before
  by_cases h : r.val < 1
  · simp [h]
  · have h' : r.val - 1 < 2048 := by omega
    simp [h, h']

/-- The same one token on. -/
theorem slice_after (f : Fin 2048 → EReal) (r : Fin 2048) :
    (if _ : 2 + r.val < 1 then 0 else if h : 2 + r.val - 1 < 2048 then f ⟨2 + r.val - 1, h⟩ else 0) = after f r := by
  unfold after
  have e : 2 + r.val - 1 = r.val + 1 := by omega
  have h0 : ¬ 2 + r.val < 1 := by omega
  simp only [e, h0, dite_false]

/-- A pad by two rows in front, the gradient of the slice one token on. -/
theorem pad_before (f : Fin 2048 → EReal) (r : Fin 2048) :
    (if h : 2 ≤ 1 + r.val ∧ 1 + r.val - 2 < 2048 then f ⟨1 + r.val - 2, h.2⟩ else 0) = before f r := by
  unfold before
  have e : 1 + r.val - 2 = r.val - 1 := by omega
  by_cases h : r.val < 1
  · have h' : ¬ (2 ≤ 1 + r.val) := by omega
    simp [h, h']
  · have h' : 2 ≤ 1 + r.val := by omega
    have h'' : r.val - 1 < 2048 := by omega
    simp [h, h', e, h'']

/-- A pad by two rows behind, the gradient of the slice one token back. -/
theorem pad_after (f : Fin 2048 → EReal) (r : Fin 2048) :
    (if h : 1 + r.val < 2048 then f ⟨1 + r.val, h⟩ else 0) = after f r := by
  unfold after
  have e : 1 + r.val = r.val + 1 := by omega
  simp only [e]

theorem col0 (l : Fin 2048) (h : l.val < 6144) : (⟨l.val, h⟩ : Fin 6144) = col 0 l := Fin.ext (by simp [col])
theorem col1 (l : Fin 2048) (h : 2048 + l.val < 6144) : (⟨2048 + l.val, h⟩ : Fin 6144) = col 1 l := Fin.ext (by simp [col])
theorem col2 (l : Fin 2048) (h : 4096 + l.val < 6144) : (⟨4096 + l.val, h⟩ : Fin 6144) = col 2 l := Fin.ext (by simp [col])

section
open Cert.ReferenceIdeal.Value

variable (m : (ℓ : Loc Cert.ReferenceIdeal.nD Cert.ReferenceIdeal.τ Cert.ReferenceIdeal.sig) → Buf (Elt Ideal) ℓ) (c : Dev Cert.ReferenceIdeal.nD)

abbrev guc' : S2048x6144.Idx → EReal := m ((c.tc : Thread Cert.ReferenceIdeal.nD Cert.ReferenceIdeal.τ).loc Cert.ReferenceIdeal.main_arg0)
abbrev cw' : S3x1x2048.Idx → EReal := m ((c.tc : Thread Cert.ReferenceIdeal.nD Cert.ReferenceIdeal.τ).loc Cert.ReferenceIdeal.main_arg1)
abbrev dp' : S2048x2048.Idx → EReal := m ((c.tc : Thread Cert.ReferenceIdeal.nD Cert.ReferenceIdeal.τ).loc Cert.ReferenceIdeal.main_arg2)

theorem ref0 (r l : Fin 2048) : res_out0 m c (ix2 r l) = gradGb (guc' m c) (cw' m c) (dp' m c) r l := by
  unfold res_out0 res_main_v74
  clean_types
  pointwise
  simp only [col0, col1, col2]
  have hB := slice_before (z (guc' m c) l) r
  have hA := slice_after (z (guc' m c) l) r
  unfold gradGb
  rw [← hB, ← hA]
  rfl

theorem refZ (r l : Fin 2048) (X : EReal) :
    ((if h : 2 ≤ 1 + r.val ∧ 1 + r.val - 2 < 2048 then
        guc (ix2 ⟨1 + r.val - 2, h.2⟩ (col 0 l)) * dp (ix2 ⟨1 + r.val - 2, h.2⟩ l) * cw (ix3 2 0 l) else 0)
      + guc (ix2 r (col 0 l)) * dp (ix2 r l) * cw (ix3 1 0 l)
      + if h : 1 + r.val < 2048 then
          guc (ix2 ⟨1 + r.val, h⟩ (col 0 l)) * dp (ix2 ⟨1 + r.val, h⟩ l) * cw (ix3 0 0 l) else 0) * X
    = gradZ guc cw dp r l * X := by
  have hB := pad_before (fun r => g guc dp l r * cw (ix3 2 0 l)) r
  have hA := pad_after (fun r => g guc dp l r * cw (ix3 0 0 l)) r
  simp only [before_mul, after_mul] at hB hA
  unfold gradZ
  have e : ∀ a b c : EReal, a + b + c = c + b + a := fun a b c => by rw [add_comm (a + b) c, add_comm a b, add_assoc]
  rw [e, ← hA, ← hB]
  rfl

theorem ref1 (r l : Fin 2048) : res_out1 m c (ix2 r l) = gradGc (guc' m c) (cw' m c) (dp' m c) r l := by
  unfold res_out1 res_main_v75
  clean_types
  pointwise
  simp only [col0, col1, col2]
  exact refZ (guc' m c) (cw' m c) (dp' m c) r l _

/-- The last third of three arrays laid side by side. -/
theorem third (X Y Z : Vec Ideal Cert.ReferenceIdeal.S2048x2048 .f32) (r l : Fin 2048) :
    (truncf (F := Ideal) .bf16 (extractStridedSlice Cert.ReferenceIdeal.S2048x2048 ![0, 4096]
      (concatenate Cert.ReferenceIdeal.S2048x6144 1 [⟨Cert.ReferenceIdeal.S2048x2048, X⟩, ⟨Cert.ReferenceIdeal.S2048x2048, Y⟩, ⟨Cert.ReferenceIdeal.S2048x2048, Z⟩]
        Cert.ReferenceIdeal.Gen.concatenates_S2048x2048_S2048x2048_S2048x2048_S2048x6144_d1)
      Cert.ReferenceIdeal.Gen.slices_S2048x6144_S2048x2048_0_4096) Cert.ReferenceIdeal.Gen.bitsLt_bf16_f32 : S2048x2048.Idx → EReal) (ix2 r l) = Z (ix2 r l) := by
  pointwise
  have h1 : ¬ 4096 + l.val < 2048 := by omega
  have h2 : ¬ 4096 + l.val - 2048 < 2048 := by omega
  have e : 4096 + l.val - 2048 - 2048 = l.val := by omega
  simp only [h1, h2, dite_false, e]

theorem ref2 (r l : Fin 2048) : res_out2 m c (ix2 r l) = gradU (guc' m c) (cw' m c) (dp' m c) r l := by
  unfold res_out2 res_main_v76
  clean_types
  refine (third _ _ _ r l).trans ?_
  pointwise
  simp only [col0, col1, col2]
  exact (mul_comm _ _).trans (refZ (guc' m c) (cw' m c) (dp' m c) r l _)

theorem ref3 (k : Fin 3) (l : Fin 2048) : res_out3 m c (ix3 k 0 l) = gradW (guc' m c) (dp' m c) k l := by
  unfold res_out3 res_main_v77
  clean_types
  have hB := slice_before (z (guc' m c) l)
  have hA := slice_after (z (guc' m c) l)
  unfold z at hA hB
  match k with
  | 0 =>
    pointwise
    simp only [col0, col1, col2, Finset.univ_unique, Finset.sum_singleton, hB]
    refine Finset.sum_congr rfl fun x _ => ?_
    exact (mul_comm _ _).trans rfl
  | 1 =>
    pointwise
    simp only [col0, col1, col2, Finset.univ_unique, Finset.sum_singleton]
    refine Finset.sum_congr rfl fun x _ => ?_
    exact (mul_comm _ _).trans rfl
  | 2 =>
    pointwise
    simp only [col0, col1, col2, Finset.univ_unique, Finset.sum_singleton, hA]
    refine Finset.sum_congr rfl fun x _ => ?_
    exact (mul_comm _ _).trans rfl

end

/-- The two value runs meet in the gradient, index by index. -/
theorem algebraic : Cert.algebraic_KernelIdeal_ReferenceIdeal := by
  pair_intro
  · run_from Cert.KernelIdeal.Value.run_blocks m g
  · run_from Cert.ReferenceIdeal.Value.run m' g'
    all_goals obtain ⟨h0, h1, h2⟩ := hagree c
    · refine Eq.trans ?_ (final5 m c).symm
      funext i
      refine (congrArg _ (eq_ix2 i)).trans ((ref0 m' c (i 0) (i 1)).trans ?_)
      unfold guc' cw' dp'
      rw [h0, h1, h2]; rfl
    · refine Eq.trans ?_ (final6 m c).symm
      funext i
      refine (congrArg _ (eq_ix2 i)).trans ((ref1 m' c (i 0) (i 1)).trans ?_)
      unfold guc' cw' dp'
      rw [h0, h1, h2]; rfl
    · refine Eq.trans ?_ (final7 m c).symm
      funext i
      refine (congrArg _ (eq_ix2 i)).trans ((ref2 m' c (i 0) (i 1)).trans ?_)
      unfold guc' cw' dp'
      rw [h0, h1, h2]; rfl
    · refine Eq.trans ?_ (final8 m c).symm
      funext i
      idx_vars i
      obtain rfl : i1 = 0 := Subsingleton.elim _ _
      refine (ref3 m' c i0 i2).trans ?_
      unfold guc' dp'
      rw [h0, h2]; rfl

/-- The reference ends, its arguments unchanged; it declares no semaphore. -/
theorem frameR : Cert.quiescent_ReferenceIdeal := by
  intro m ρ _
  run_from Cert.ReferenceIdeal.Value.run m ρ
  · exact fun _ => ⟨trivial, trivial, trivial⟩
  · funext x
    rcases x with ⟨_, ⟨i⟩ | ⟨i⟩⟩ <;> exact i.elim0

end Cert.Proof.Conv
-- ==== Proof.Products.Sums.lean ====
/-
  The three products of two arrays that a linear layer and its gradients are made of, each one sum over
  the whole summed axis.
-/
module

public import Idealize.ShloMosaic.Lib.Pipeline.ValueKit
public import Idealize.ShloMosaic.Lib.Pointwise

@[expose] public section

noncomputable section

namespace Cert.Proof

open Idealize.ShloMosaic Idealize.ShloMosaic.TcCoe Idealize.SL.Sem

variable {m n k : Nat}

/-- The rows of `x` times the columns of `y`: a linear layer. -/
def rowsCols (x : (⟨2, ![m, k]⟩ : Shape).Idx → EReal) (y : (⟨2, ![k, n]⟩ : Shape).Idx → EReal) :
    (⟨2, ![m, n]⟩ : Shape).Idx → EReal :=
  fun i => ∑ l : Fin k, x (ix2 (i 0) l) * y (ix2 l (i 1))

/-- The rows of `x` times the rows of `y`: the gradient of a linear layer's input. -/
def rowsRows (x : (⟨2, ![m, k]⟩ : Shape).Idx → EReal) (y : (⟨2, ![n, k]⟩ : Shape).Idx → EReal) :
    (⟨2, ![m, n]⟩ : Shape).Idx → EReal :=
  fun i => ∑ l : Fin k, x (ix2 (i 0) l) * y (ix2 (i 1) l)

/-- The columns of `x` times the columns of `y`: the gradient of a linear layer's weight. -/
def colsCols (x : (⟨2, ![k, m]⟩ : Shape).Idx → EReal) (y : (⟨2, ![k, n]⟩ : Shape).Idx → EReal) :
    (⟨2, ![m, n]⟩ : Shape).Idx → EReal :=
  fun i => ∑ l : Fin k, x (ix2 l (i 0)) * y (ix2 l (i 1))

end Cert.Proof
-- ==== Proof.Products.W13Fwd.lean ====
/-
  The product of the feed-forward's first linear layer, kernel against reference, at the ideal instance:
  the kernel's blocks tile one sum over the whole summed axis.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.W13Fwd

open Idealize.ShloMosaic Idealize.ShloMosaic.TcCoe Idealize.SL.Sem
open Cert.Kernel2Ideal Cert.Kernel2Ideal.Gen

/-- The block of each array that grid point `t` works on. -/
theorem idx : ∀ t : Fin cfg0.N, win0_0.index t = ![t.val / 11, 0] ∧
    win0_1.index t = ![0, t.val % 11] ∧ win0_2.index t = ![t.val / 11, t.val % 11] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = rowsCols (m (c.tc.loc main_arg0)) (m (c.tc.loc main_arg1)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel2Ideal_Reference2Ideal := by
  pair_intro
  · run_from Cert.Kernel2Ideal.Value.run_blocks m g
  · run_from Cert.Reference2Ideal.Value.run m' g'
    rw [final]
    funext i
    idx_vars i
    clean_types
    pointwise
    exact Finset.sum_congr rfl fun k _ => rfl

/-- The reference ends, its arguments unchanged; it declares no semaphore. -/
theorem frameR : Cert.quiescent_Reference2Ideal := by
  intro m ρ _
  run_from Cert.Reference2Ideal.Value.run m ρ
  · exact fun _ => ⟨trivial, trivial⟩
  · funext x
    rcases x with ⟨_, ⟨i⟩ | ⟨i⟩⟩ <;> exact i.elim0

end Cert.Proof.W13Fwd
-- ==== Proof.Products.W13Da.lean ====
/-
  The gradient of the input of the feed-forward's first linear layer, kernel against reference, at the ideal instance:
  the kernel's blocks tile one sum over the whole summed axis.
  It adds up 4 stretches of the summed axis in an accumulator that it keeps between grid points.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.W13Da

open Idealize.ShloMosaic Idealize.ShloMosaic.TcCoe Idealize.SL.Sem
open Cert.Kernel3Ideal Cert.Kernel3Ideal.Gen

/-- The block of each array that grid point `t` works on. -/
theorem idx : ∀ t : Fin cfg0.N, win0_0.index t = ![t.val / 8, t.val % 4] ∧
    win0_1.index t = ![t.val / 4 % 2, t.val % 4] ∧ win0_2.index t = ![t.val / 8, t.val / 4 % 2] :=
  (by decide +kernel : ∀ t : Fin grid0.N, _)

section
variable (m : (ℓ : Loc nD τ sig) → Buf (Elt Ideal) ℓ) (c : Dev nD)

/-- The two factors' blocks at grid point `t`. -/
abbrev X (t : Fin cfg0.N) : S1024x2816.Idx → EReal := iblk m c 0 t
abbrev Y (t : Fin cfg0.N) : S1024x2816.Idx → EReal := iblk m c 1 t

/-- What grid point `t` adds to the accumulator. -/
def term (t : Fin cfg0.N) : S1024x1024.Idx → EReal := rowsRows (X m c t) (Y m c t)

/-- The first point of a block of the result sets the accumulator. -/
theorem first (t : Fin cfg0.N) (h : t.val % 4 = 0) (y : S1024x1024.Idx) :
    (outsAt0 m c t.val t.isLt).2 y = 0 + term m c t y := by
  rw [outsAt0_A m c t h (by omega) (by omega)]
  idx_vars y
  frame_out
  unfold_payloads
  pointwise
  rfl

/-- Every later point adds to it. -/
theorem next (t : Fin cfg0.N) (h : ¬ t.val % 4 = 0) (y : S1024x1024.Idx) :
    (outsAt0 m c t.val t.isLt).2 y = (outsAt0 m c (t.val - 1) (Nat.lt_of_le_of_lt (Nat.sub_le _ _) t.isLt)).2 y + term m c t y := by
  by_cases hl : t.val % 4 = 3
  · rw [outsAt0_C m c t h (by omega) hl]
    idx_vars y
    frame_out
    unfold_payloads
    simp only [read_unread_whole]
    pointwise
    rfl
  · rw [outsAt0_B m c t h (by omega) hl]
    idx_vars y
    frame_out
    unfold_payloads
    simp only [read_unread_whole]
    pointwise
    rfl

/-- The last point writes the accumulator to the result. -/
theorem out (t : Fin cfg0.N) (h : t.val % 4 = 3) (y : S1024x1024.Idx) :
    (outsAt0 m c t.val t.isLt).1 y = (outsAt0 m c t.val t.isLt).2 y := by
  rw [outsAt0_C m c t (by omega) (by omega) (by omega)]
  idx_vars y
  frame_out
  unfold_payloads
  pointwise

/-- What the kernel leaves in its result. -/
theorem final : (dats m 0 c).arrAt 2 cfg0.N = rowsRows (m (c.tc.loc main_arg2)) (m (c.tc.loc main_arg1)) := by
  refine (dats m 0 c).arrAt_eq_of_covers 2 _ (by decide +kernel) fun t hf y => ?_
  blk_simp
  rw [after0_2]
  have h : t.val % 4 = 3 := (flush0_2 t).mp hf
  refine (out m c t h y).trans ?_
  refine (Pipeline.eq_sum_fin_of_reset_step_apply_of_flush (fun n h => (outsAt0 m c n h).2) 4 (fun _ => 0) (term m c)
    (first m c) (next m c) t h y).trans ?_
  refine (zero_add _).trans ?_
  refine Fin.sum_mul_add_congr fun s k hl => ?_
  idx_vars y
  have e := idx ⟨4 * (t.val / 4) + s.val, Pipeline.run_point_lt_of_flush t h s⟩
  congr 1 <;> blk_ext [iblk, V, idx t, e]

end

/-- Kernel and reference leave the same product. -/
theorem algebraic : Cert.algebraic_Kernel3Ideal_Reference3Ideal := by
  pair_intro
  · run_from Cert.Kernel3Ideal.Value.run_blocks m g
  · run_from Cert.Reference3Ideal.Value.run m' g'
    rw [final]
    funext i
    idx_vars i
    clean_types
    pointwise
    exact Finset.sum_congr rfl fun k _ => rfl

/-- The reference ends, its arguments unchanged; it declares no semaphore. -/
theorem frameR : Cert.quiescent_Reference3Ideal := by
  intro m ρ _
  run_from Cert.Reference3Ideal.Value.run m ρ
  · exact fun _ => ⟨trivial, trivial, trivial⟩
  · funext x
    rcases x with ⟨_, ⟨i⟩ | ⟨i⟩⟩ <;> exact i.elim0

end Cert.Proof.W13Da
-- ==== Proof.Products.W13Dw.lean ====
/-
  The gradient of the weight of the feed-forward's first linear layer, kernel against reference, at the ideal instance:
  the kernel's blocks tile one sum over the whole summed axis.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.W13Dw

open Idealize.ShloMosaic Idealize.ShloMosaic.TcCoe Idealize.SL.Sem
open Cert.Kernel4Ideal Cert.Kernel4Ideal.Gen

/-- The block of each array that grid point `t` works on. -/
theorem idx : ∀ t : Fin cfg0.N, win0_0.index t = ![0, t.val / 11] ∧
    win0_1.index t = ![0, t.val % 11] ∧ win0_2.index t = ![t.val / 11, t.val % 11] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = colsCols (m (c.tc.loc main_arg0)) (m (c.tc.loc main_arg2)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel4Ideal_Reference4Ideal := by
  pair_intro
  · run_from Cert.Kernel4Ideal.Value.run_blocks m g
  · run_from Cert.Reference4Ideal.Value.run m' g'
    rw [final]
    funext i
    idx_vars i
    clean_types
    pointwise
    exact Finset.sum_congr rfl fun k _ => mul_comm _ _

/-- The reference ends, its arguments unchanged; it declares no semaphore. -/
theorem frameR : Cert.quiescent_Reference4Ideal := by
  intro m ρ _
  run_from Cert.Reference4Ideal.Value.run m ρ
  · exact fun _ => ⟨trivial, trivial, trivial⟩
  · funext x
    rcases x with ⟨_, ⟨i⟩ | ⟨i⟩⟩ <;> exact i.elim0

end Cert.Proof.W13Dw
-- ==== Proof.Products.W2Fwd.lean ====
/-
  The product of the feed-forward's second linear layer, kernel against reference, at the ideal instance:
  the kernel's blocks tile one sum over the whole summed axis.
  It adds up 2 stretches of the summed axis in an accumulator that it keeps between grid points.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.W2Fwd

open Idealize.ShloMosaic Idealize.ShloMosaic.TcCoe Idealize.SL.Sem
open Cert.Kernel5Ideal Cert.Kernel5Ideal.Gen

/-- The block of each array that grid point `t` works on. -/
theorem idx : ∀ t : Fin cfg0.N, win0_0.index t = ![t.val / 4, t.val % 2] ∧
    win0_1.index t = ![t.val % 2, t.val / 2 % 2] ∧ win0_2.index t = ![t.val / 4, t.val / 2 % 2] :=
  (by decide +kernel : ∀ t : Fin grid0.N, _)

section
variable (m : (ℓ : Loc nD τ sig) → Buf (Elt Ideal) ℓ) (c : Dev nD)

/-- The two factors' blocks at grid point `t`. -/
abbrev X (t : Fin cfg0.N) : S512x2816.Idx → EReal := iblk m c 0 t
abbrev Y (t : Fin cfg0.N) : S2816x1024.Idx → EReal := iblk m c 1 t

/-- What grid point `t` adds to the accumulator. -/
def term (t : Fin cfg0.N) : S512x1024.Idx → EReal := rowsCols (X m c t) (Y m c t)

/-- The first point of a block of the result sets the accumulator. -/
theorem first (t : Fin cfg0.N) (h : t.val % 2 = 0) (y : S512x1024.Idx) :
    (outsAt0 m c t.val t.isLt).2 y = 0 + term m c t y := by
  rw [outsAt0_A m c t h (by omega) (by omega)]
  idx_vars y
  frame_out
  unfold_payloads
  pointwise
  rfl

/-- The later point adds to it. -/
theorem next (t : Fin cfg0.N) (h : ¬ t.val % 2 = 0) (y : S512x1024.Idx) :
    (outsAt0 m c t.val t.isLt).2 y = (outsAt0 m c (t.val - 1) (Nat.lt_of_le_of_lt (Nat.sub_le _ _) t.isLt)).2 y + term m c t y := by
  rw [outsAt0_B m c t h (by omega) (by omega)]
  idx_vars y
  frame_out
  unfold_payloads
  simp only [read_unread_whole]
  pointwise
  rfl

/-- The last point writes the accumulator to the result. -/
theorem out (t : Fin cfg0.N) (h : t.val % 2 = 1) (y : S512x1024.Idx) :
    (outsAt0 m c t.val t.isLt).1 y = (outsAt0 m c t.val t.isLt).2 y := by
  rw [outsAt0_B m c t (by omega) (by omega) (by omega)]
  idx_vars y
  frame_out

/-- What the kernel leaves in its result. -/
theorem final : (dats m 0 c).arrAt 2 cfg0.N = rowsCols (m (c.tc.loc main_arg0)) (m (c.tc.loc main_arg1)) := by
  refine (dats m 0 c).arrAt_eq_of_covers 2 _ (by decide +kernel) fun t hf y => ?_
  blk_simp
  rw [after0_2]
  have h : t.val % 2 = 1 := (flush0_2 t).mp hf
  refine (out m c t h y).trans ?_
  refine (Pipeline.eq_sum_fin_of_reset_step_apply_of_flush (fun n h => (outsAt0 m c n h).2) 2 (fun _ => 0) (term m c)
    (first m c) (next m c) t h y).trans ?_
  refine (zero_add _).trans ?_
  refine Fin.sum_mul_add_congr fun s k hl => ?_
  idx_vars y
  have e := idx ⟨2 * (t.val / 2) + s.val, Pipeline.run_point_lt_of_flush t h s⟩
  congr 1 <;> blk_ext [iblk, V, idx t, e]

end

/-- Kernel and reference leave the same product. -/
theorem algebraic : Cert.algebraic_Kernel5Ideal_Reference5Ideal := by
  pair_intro
  · run_from Cert.Kernel5Ideal.Value.run_blocks m g
  · run_from Cert.Reference5Ideal.Value.run m' g'
    rw [final]
    funext i
    idx_vars i
    clean_types
    pointwise
    exact Finset.sum_congr rfl fun k _ => rfl

/-- The reference ends, its arguments unchanged; it declares no semaphore. -/
theorem frameR : Cert.quiescent_Reference5Ideal := by
  intro m ρ _
  run_from Cert.Reference5Ideal.Value.run m ρ
  · exact fun _ => ⟨trivial, trivial⟩
  · funext x
    rcases x with ⟨_, ⟨i⟩ | ⟨i⟩⟩ <;> exact i.elim0

end Cert.Proof.W2Fwd
-- ==== Proof.Products.W2Da.lean ====
/-
  The gradient of the input of the feed-forward's second linear layer, kernel against reference, at the ideal instance:
  the kernel's blocks tile one sum over the whole summed axis.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.W2Da

open Idealize.ShloMosaic Idealize.ShloMosaic.TcCoe Idealize.SL.Sem
open Cert.Kernel6Ideal Cert.Kernel6Ideal.Gen

/-- The block of each array that grid point `t` works on. -/
theorem idx : ∀ t : Fin cfg0.N, win0_0.index t = ![t.val / 11, 0] ∧
    win0_1.index t = ![t.val % 11, 0] ∧ win0_2.index t = ![t.val / 11, t.val % 11] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = rowsRows (m (c.tc.loc main_arg2)) (m (c.tc.loc main_arg1)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel6Ideal_Reference6Ideal := by
  pair_intro
  · run_from Cert.Kernel6Ideal.Value.run_blocks m g
  · run_from Cert.Reference6Ideal.Value.run m' g'
    rw [final]
    funext i
    idx_vars i
    clean_types
    pointwise
    exact Finset.sum_congr rfl fun k _ => rfl

/-- The reference ends, its arguments unchanged; it declares no semaphore. -/
theorem frameR : Cert.quiescent_Reference6Ideal := by
  intro m ρ _
  run_from Cert.Reference6Ideal.Value.run m ρ
  · exact fun _ => ⟨trivial, trivial, trivial⟩
  · funext x
    rcases x with ⟨_, ⟨i⟩ | ⟨i⟩⟩ <;> exact i.elim0

end Cert.Proof.W2Da
-- ==== Proof.Products.W2Dw.lean ====
/-
  The gradient of the weight of the feed-forward's second linear layer, kernel against reference, at the ideal instance:
  the kernel's blocks tile one sum over the whole summed axis.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.W2Dw

open Idealize.ShloMosaic Idealize.ShloMosaic.TcCoe Idealize.SL.Sem
open Cert.Kernel7Ideal Cert.Kernel7Ideal.Gen

/-- The block of each array that grid point `t` works on. -/
theorem idx : ∀ t : Fin cfg0.N, win0_0.index t = ![0, t.val / 2] ∧
    win0_1.index t = ![0, t.val % 2] ∧ win0_2.index t = ![t.val / 2, t.val % 2] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = colsCols (m (c.tc.loc main_arg0)) (m (c.tc.loc main_arg2)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel7Ideal_Reference7Ideal := by
  pair_intro
  · run_from Cert.Kernel7Ideal.Value.run_blocks m g
  · run_from Cert.Reference7Ideal.Value.run m' g'
    rw [final]
    funext i
    idx_vars i
    clean_types
    pointwise
    exact Finset.sum_congr rfl fun k _ => mul_comm _ _

/-- The reference ends, its arguments unchanged; it declares no semaphore. -/
theorem frameR : Cert.quiescent_Reference7Ideal := by
  intro m ρ _
  run_from Cert.Reference7Ideal.Value.run m ρ
  · exact fun _ => ⟨trivial, trivial, trivial⟩
  · funext x
    rcases x with ⟨_, ⟨i⟩ | ⟨i⟩⟩ <;> exact i.elim0

end Cert.Proof.W2Dw
-- ==== Proof.Products.WinFwd.lean ====
/-
  The product of the short convolution's input layer, kernel against reference, at the ideal instance:
  the kernel's blocks tile one sum over the whole summed axis.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WinFwd

open Idealize.ShloMosaic Idealize.ShloMosaic.TcCoe Idealize.SL.Sem
open Cert.Kernel8Ideal Cert.Kernel8Ideal.Gen

/-- The block of each array that grid point `t` works on. -/
theorem idx : ∀ t : Fin cfg0.N, win0_0.index t = ![t.val / 6, 0] ∧
    win0_1.index t = ![0, t.val % 6] ∧ win0_2.index t = ![t.val / 6, t.val % 6] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = rowsCols (m (c.tc.loc main_arg0)) (m (c.tc.loc main_arg1)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel8Ideal_Reference8Ideal := by
  pair_intro
  · run_from Cert.Kernel8Ideal.Value.run_blocks m g
  · run_from Cert.Reference8Ideal.Value.run m' g'
    rw [final]
    funext i
    idx_vars i
    clean_types
    pointwise
    exact Finset.sum_congr rfl fun k _ => rfl

/-- The reference ends, its arguments unchanged; it declares no semaphore. -/
theorem frameR : Cert.quiescent_Reference8Ideal := by
  intro m ρ _
  run_from Cert.Reference8Ideal.Value.run m ρ
  · exact fun _ => ⟨trivial, trivial⟩
  · funext x
    rcases x with ⟨_, ⟨i⟩ | ⟨i⟩⟩ <;> exact i.elim0

end Cert.Proof.WinFwd
-- ==== Proof.Products.WinDa.lean ====
/-
  The gradient of the input of the short convolution's input layer, kernel against reference, at the ideal instance:
  the kernel's blocks tile one sum over the whole summed axis.
  It adds up 3 stretches of the summed axis in an accumulator that it keeps between grid points.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WinDa

open Idealize.ShloMosaic Idealize.ShloMosaic.TcCoe Idealize.SL.Sem
open Cert.Kernel9Ideal Cert.Kernel9Ideal.Gen

/-- The block of each array that grid point `t` works on. -/
theorem idx : ∀ t : Fin cfg0.N, win0_0.index t = ![t.val / 6, t.val % 3] ∧
    win0_1.index t = ![t.val / 3 % 2, t.val % 3] ∧ win0_2.index t = ![t.val / 6, t.val / 3 % 2] :=
  (by decide +kernel : ∀ t : Fin grid0.N, _)

section
variable (m : (ℓ : Loc nD τ sig) → Buf (Elt Ideal) ℓ) (c : Dev nD)

/-- The two factors' blocks at grid point `t`. -/
abbrev X (t : Fin cfg0.N) : S1024x2048.Idx → EReal := iblk m c 0 t
abbrev Y (t : Fin cfg0.N) : S1024x2048.Idx → EReal := iblk m c 1 t

/-- What grid point `t` adds to the accumulator. -/
def term (t : Fin cfg0.N) : S1024x1024.Idx → EReal := rowsRows (X m c t) (Y m c t)

/-- The first point of a block of the result sets the accumulator. -/
theorem first (t : Fin cfg0.N) (h : t.val % 3 = 0) (y : S1024x1024.Idx) :
    (outsAt0 m c t.val t.isLt).2 y = 0 + term m c t y := by
  rw [outsAt0_A m c t h (by omega) (by omega)]
  idx_vars y
  frame_out
  unfold_payloads
  pointwise
  rfl

/-- Every later point adds to it. -/
theorem next (t : Fin cfg0.N) (h : ¬ t.val % 3 = 0) (y : S1024x1024.Idx) :
    (outsAt0 m c t.val t.isLt).2 y = (outsAt0 m c (t.val - 1) (Nat.lt_of_le_of_lt (Nat.sub_le _ _) t.isLt)).2 y + term m c t y := by
  by_cases hl : t.val % 3 = 2
  · rw [outsAt0_C m c t h (by omega) hl]
    idx_vars y
    frame_out
    unfold_payloads
    simp only [read_unread_whole]
    pointwise
    rfl
  · rw [outsAt0_B m c t h (by omega) hl]
    idx_vars y
    frame_out
    unfold_payloads
    simp only [read_unread_whole]
    pointwise
    rfl

/-- The last point writes the accumulator to the result. -/
theorem out (t : Fin cfg0.N) (h : t.val % 3 = 2) (y : S1024x1024.Idx) :
    (outsAt0 m c t.val t.isLt).1 y = (outsAt0 m c t.val t.isLt).2 y := by
  rw [outsAt0_C m c t (by omega) (by omega) (by omega)]
  idx_vars y
  frame_out
  unfold_payloads
  pointwise

/-- What the kernel leaves in its result. -/
theorem final : (dats m 0 c).arrAt 2 cfg0.N = rowsRows (m (c.tc.loc main_arg2)) (m (c.tc.loc main_arg1)) := by
  refine (dats m 0 c).arrAt_eq_of_covers 2 _ (by decide +kernel) fun t hf y => ?_
  blk_simp
  rw [after0_2]
  have h : t.val % 3 = 2 := (flush0_2 t).mp hf
  refine (out m c t h y).trans ?_
  refine (Pipeline.eq_sum_fin_of_reset_step_apply_of_flush (fun n h => (outsAt0 m c n h).2) 3 (fun _ => 0) (term m c)
    (first m c) (next m c) t h y).trans ?_
  refine (zero_add _).trans ?_
  refine Fin.sum_mul_add_congr fun s k hl => ?_
  idx_vars y
  have e := idx ⟨3 * (t.val / 3) + s.val, Pipeline.run_point_lt_of_flush t h s⟩
  congr 1 <;> blk_ext [iblk, V, idx t, e]

end

/-- Kernel and reference leave the same product. -/
theorem algebraic : Cert.algebraic_Kernel9Ideal_Reference9Ideal := by
  pair_intro
  · run_from Cert.Kernel9Ideal.Value.run_blocks m g
  · run_from Cert.Reference9Ideal.Value.run m' g'
    rw [final]
    funext i
    idx_vars i
    clean_types
    pointwise
    exact Finset.sum_congr rfl fun k _ => rfl

/-- The reference ends, its arguments unchanged; it declares no semaphore. -/
theorem frameR : Cert.quiescent_Reference9Ideal := by
  intro m ρ _
  run_from Cert.Reference9Ideal.Value.run m ρ
  · exact fun _ => ⟨trivial, trivial, trivial⟩
  · funext x
    rcases x with ⟨_, ⟨i⟩ | ⟨i⟩⟩ <;> exact i.elim0

end Cert.Proof.WinDa
-- ==== Proof.Products.WinDw.lean ====
/-
  The gradient of the weight of the short convolution's input layer, kernel against reference, at the ideal instance:
  the kernel's blocks tile one sum over the whole summed axis.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WinDw

open Idealize.ShloMosaic Idealize.ShloMosaic.TcCoe Idealize.SL.Sem
open Cert.Kernel10Ideal Cert.Kernel10Ideal.Gen

/-- The block of each array that grid point `t` works on. -/
theorem idx : ∀ t : Fin cfg0.N, win0_0.index t = ![0, t.val / 6] ∧
    win0_1.index t = ![0, t.val % 6] ∧ win0_2.index t = ![t.val / 6, t.val % 6] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = colsCols (m (c.tc.loc main_arg0)) (m (c.tc.loc main_arg2)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel10Ideal_Reference10Ideal := by
  pair_intro
  · run_from Cert.Kernel10Ideal.Value.run_blocks m g
  · run_from Cert.Reference10Ideal.Value.run m' g'
    rw [final]
    funext i
    idx_vars i
    clean_types
    pointwise
    exact Finset.sum_congr rfl fun k _ => mul_comm _ _

/-- The reference ends, its arguments unchanged; it declares no semaphore. -/
theorem frameR : Cert.quiescent_Reference10Ideal := by
  intro m ρ _
  run_from Cert.Reference10Ideal.Value.run m ρ
  · exact fun _ => ⟨trivial, trivial, trivial⟩
  · funext x
    rcases x with ⟨_, ⟨i⟩ | ⟨i⟩⟩ <;> exact i.elim0

end Cert.Proof.WinDw
-- ==== Proof.Products.WoutFwd.lean ====
/-
  The product of the output layer of a mixer (the short convolution's, and the delta rule's, which has the same shape), kernel against reference, at the ideal instance:
  the kernel's blocks tile one sum over the whole summed axis.
-/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WoutFwd

open Idealize.ShloMosaic Idealize.ShloMosaic.TcCoe Idealize.SL.Sem
open Cert.Kernel11Ideal Cert.Kernel11Ideal.Gen

/-- The block of each array that grid point `t` works on. -/
theorem idx : ∀ t : Fin cfg0.N, win0_0.index t = ![t.val / 2, 0] ∧
    win0_1.index t = ![0, t.val % 2] ∧ win0_2.index t = ![t.val / 2, t.val % 2] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = rowsCols (m (c.tc.loc main_arg0)) (m (c.tc.loc main_arg1)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel11Ideal_Reference11Ideal := by
  pair_intro
  · run_from Cert.Kernel11Ideal.Value.run_blocks m g
  · run_from Cert.Reference11Ideal.Value.run m' g'
    rw [final]
    funext i
    idx_vars i
    clean_types
    pointwise
    exact Finset.sum_congr rfl fun k _ => rfl

/-- The reference ends, its arguments unchanged; it declares no semaphore. -/
theorem frameR : Cert.quiescent_Reference11Ideal := by
  intro m ρ _
  run_from Cert.Reference11Ideal.Value.run m ρ
  · exact fun _ => ⟨trivial, trivial⟩
  · funext x
    rcases x with ⟨_, ⟨i⟩ | ⟨i⟩⟩ <;> exact i.elim0

end Cert.Proof.WoutFwd
-- ==== Proof.Products.WoutDa.lean ====
/-
  The gradient of the input of the output layer of a mixer (the short convolution's, and the delta rule's, which has the same shape), kernel against reference, at the ideal instance:
  the kernel's blocks tile one sum over the whole summed axis.
-/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WoutDa

open Idealize.ShloMosaic Idealize.ShloMosaic.TcCoe Idealize.SL.Sem
open Cert.Kernel12Ideal Cert.Kernel12Ideal.Gen

/-- The block of each array that grid point `t` works on. -/
theorem idx : ∀ t : Fin cfg0.N, win0_0.index t = ![t.val / 2, 0] ∧
    win0_1.index t = ![t.val % 2, 0] ∧ win0_2.index t = ![t.val / 2, t.val % 2] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = rowsRows (m (c.tc.loc main_arg2)) (m (c.tc.loc main_arg1)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel12Ideal_Reference12Ideal := by
  pair_intro
  · run_from Cert.Kernel12Ideal.Value.run_blocks m g
  · run_from Cert.Reference12Ideal.Value.run m' g'
    rw [final]
    funext i
    idx_vars i
    clean_types
    pointwise
    exact Finset.sum_congr rfl fun k _ => rfl

/-- The reference ends, its arguments unchanged; it declares no semaphore. -/
theorem frameR : Cert.quiescent_Reference12Ideal := by
  intro m ρ _
  run_from Cert.Reference12Ideal.Value.run m ρ
  · exact fun _ => ⟨trivial, trivial, trivial⟩
  · funext x
    rcases x with ⟨_, ⟨i⟩ | ⟨i⟩⟩ <;> exact i.elim0

end Cert.Proof.WoutDa
-- ==== Proof.Products.WoutDw.lean ====
/-
  The gradient of the weight of the output layer of a mixer (the short convolution's, and the delta rule's, which has the same shape), kernel against reference, at the ideal instance:
  the kernel's blocks tile one sum over the whole summed axis.
-/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WoutDw

open Idealize.ShloMosaic Idealize.ShloMosaic.TcCoe Idealize.SL.Sem
open Cert.Kernel13Ideal Cert.Kernel13Ideal.Gen

/-- The block of each array that grid point `t` works on. -/
theorem idx : ∀ t : Fin cfg0.N, win0_0.index t = ![0, t.val / 2] ∧
    win0_1.index t = ![0, t.val % 2] ∧ win0_2.index t = ![t.val / 2, t.val % 2] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = colsCols (m (c.tc.loc main_arg0)) (m (c.tc.loc main_arg2)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel13Ideal_Reference13Ideal := by
  pair_intro
  · run_from Cert.Kernel13Ideal.Value.run_blocks m g
  · run_from Cert.Reference13Ideal.Value.run m' g'
    rw [final]
    funext i
    idx_vars i
    clean_types
    pointwise
    exact Finset.sum_congr rfl fun k _ => mul_comm _ _

/-- The reference ends, its arguments unchanged; it declares no semaphore. -/
theorem frameR : Cert.quiescent_Reference13Ideal := by
  intro m ρ _
  run_from Cert.Reference13Ideal.Value.run m ρ
  · exact fun _ => ⟨trivial, trivial, trivial⟩
  · funext x
    rcases x with ⟨_, ⟨i⟩ | ⟨i⟩⟩ <;> exact i.elim0

end Cert.Proof.WoutDw
-- ==== Proof.Products.WrFwd.lean ====
/-
  The product of a linear layer of the delta-rule mixer (receptance, key and value have the same shape), kernel against reference, at the ideal instance:
  the kernel's blocks tile one sum over the whole summed axis.
-/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WrFwd

open Idealize.ShloMosaic Idealize.ShloMosaic.TcCoe Idealize.SL.Sem
open Cert.Kernel14Ideal Cert.Kernel14Ideal.Gen

/-- The block of each array that grid point `t` works on. -/
theorem idx : ∀ t : Fin cfg0.N, win0_0.index t = ![t.val / 2, 0] ∧
    win0_1.index t = ![0, t.val % 2] ∧ win0_2.index t = ![t.val / 2, t.val % 2] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = rowsCols (m (c.tc.loc main_arg0)) (m (c.tc.loc main_arg1)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel14Ideal_Reference14Ideal := by
  pair_intro
  · run_from Cert.Kernel14Ideal.Value.run_blocks m g
  · run_from Cert.Reference14Ideal.Value.run m' g'
    rw [final]
    funext i
    idx_vars i
    clean_types
    pointwise
    exact Finset.sum_congr rfl fun k _ => rfl

/-- The reference ends, its arguments unchanged; it declares no semaphore. -/
theorem frameR : Cert.quiescent_Reference14Ideal := by
  intro m ρ _
  run_from Cert.Reference14Ideal.Value.run m ρ
  · exact fun _ => ⟨trivial, trivial⟩
  · funext x
    rcases x with ⟨_, ⟨i⟩ | ⟨i⟩⟩ <;> exact i.elim0

end Cert.Proof.WrFwd
-- ==== Proof.Products.WrDa.lean ====
/-
  The gradient of the input of a linear layer of the delta-rule mixer (receptance, key and value have the same shape), kernel against reference, at the ideal instance:
  the kernel's blocks tile one sum over the whole summed axis.
-/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WrDa

open Idealize.ShloMosaic Idealize.ShloMosaic.TcCoe Idealize.SL.Sem
open Cert.Kernel15Ideal Cert.Kernel15Ideal.Gen

/-- The block of each array that grid point `t` works on. -/
theorem idx : ∀ t : Fin cfg0.N, win0_0.index t = ![t.val / 2, 0] ∧
    win0_1.index t = ![t.val % 2, 0] ∧ win0_2.index t = ![t.val / 2, t.val % 2] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = rowsRows (m (c.tc.loc main_arg2)) (m (c.tc.loc main_arg1)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel15Ideal_Reference15Ideal := by
  pair_intro
  · run_from Cert.Kernel15Ideal.Value.run_blocks m g
  · run_from Cert.Reference15Ideal.Value.run m' g'
    rw [final]
    funext i
    idx_vars i
    clean_types
    pointwise
    exact Finset.sum_congr rfl fun k _ => rfl

/-- The reference ends, its arguments unchanged; it declares no semaphore. -/
theorem frameR : Cert.quiescent_Reference15Ideal := by
  intro m ρ _
  run_from Cert.Reference15Ideal.Value.run m ρ
  · exact fun _ => ⟨trivial, trivial, trivial⟩
  · funext x
    rcases x with ⟨_, ⟨i⟩ | ⟨i⟩⟩ <;> exact i.elim0

end Cert.Proof.WrDa
-- ==== Proof.Products.WrDw.lean ====
/-
  The gradient of the weight of a linear layer of the delta-rule mixer (receptance, key and value have the same shape), kernel against reference, at the ideal instance:
  the kernel's blocks tile one sum over the whole summed axis.
-/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Tactic.CleanTypes
public import Idealize.ShloMosaic.Lib.Claim
public import proofs.«01_k».proof.Proof.Products.Sums

@[expose] public section

set_option maxRecDepth 16384
set_option maxHeartbeats 4000000

noncomputable section

namespace Cert.Proof.WrDw

open Idealize.ShloMosaic Idealize.ShloMosaic.TcCoe Idealize.SL.Sem
open Cert.Kernel16Ideal Cert.Kernel16Ideal.Gen

/-- The block of each array that grid point `t` works on. -/
theorem idx : ∀ t : Fin cfg0.N, win0_0.index t = ![0, t.val / 2] ∧
    win0_1.index t = ![0, t.val % 2] ∧ win0_2.index t = ![t.val / 2, t.val % 2] :=
  (by decide +kernel : ∀ t : Fin grid0.N, _)

/-- What the kernel leaves in its result. -/
theorem final (m : (ℓ : Loc nD τ sig) → Buf (Elt Ideal) ℓ) (c : Dev nD) :
    (dats m 0 c).arrAt 2 cfg0.N = colsCols (m (c.tc.loc main_arg0)) (m (c.tc.loc main_arg2)) := by
  refine (dats m 0 c).arrAt_eq_of_covers 2 _ (by decide +kernel) fun t hf y => ?_
  blk_simp
  rw [after0_2]
  frame_out
  idx_vars y
  unfold_payloads
  pointwise
  refine Finset.sum_congr (M := EReal) rfl fun k _ => ?_
  congr 1 <;> blk_ext [iblk, V, idx t]

/-- Kernel and reference leave the same product. -/
theorem algebraic : Cert.algebraic_Kernel16Ideal_Reference16Ideal := by
  pair_intro
  · run_from Cert.Kernel16Ideal.Value.run_blocks m g
  · run_from Cert.Reference16Ideal.Value.run m' g'
    rw [final]
    funext i
    idx_vars i
    clean_types
    pointwise
    exact Finset.sum_congr rfl fun k _ => mul_comm _ _

/-- The reference ends, its arguments unchanged; it declares no semaphore. -/
theorem frameR : Cert.quiescent_Reference16Ideal := by
  intro m ρ _
  run_from Cert.Reference16Ideal.Value.run m ρ
  · exact fun _ => ⟨trivial, trivial, trivial⟩
  · funext x
    rcases x with ⟨_, ⟨i⟩ | ⟨i⟩⟩ <;> exact i.elim0

end Cert.Proof.WrDw
-- ==== Proof.Adam.Step.lean ====
/-
  One step of the optimiser on one weight, as real arithmetic: the gradient is the sum of the
  devices' shares, the two moments move towards it and its square, and the weight moves against the
  ratio of the corrected moments and decays.
-/
module

public import Idealize.ShloMosaic.Lib.Pipeline.ValueKit
public import Idealize.ShloMosaic.Lib.Pointwise

@[expose] public section

noncomputable section

namespace Cert.Proof.Adam

open Idealize.ShloMosaic Idealize.ShloMosaic.TcCoe Idealize.SL.Sem

variable {n a b : Nat}

/-- The gradient at one place: the sum over the devices' shares of it. -/
def grad (p : (⟨3, ![n, a, b]⟩ : Shape).Idx → EReal) (i : Fin a) (j : Fin b) : EReal :=
  ∑ s : Fin n, p (ix3 s i j)

/-- The first moment after the step: nine tenths of it and a tenth of the gradient. -/
def newM (m g : EReal) : EReal :=
  Ideal.ofBits FTy.f32 0x3F666666#32 * m + Ideal.ofBits FTy.f32 0x3DCCCCCD#32 * g

/-- The second moment after the step: nearly all of it and a thousandth of the gradient's square. -/
def newV (v g : EReal) : EReal :=
  Ideal.ofBits FTy.f32 0x3F7FBE77#32 * v + Ideal.ofBits FTy.f32 0x3A83126F#32 * (g * g)

/-- What is added to the weight: the corrected first moment over the root of the corrected second,
    with the weight's decay, times the negated learning rate. -/
def delta (w m v g : EReal) : EReal :=
  Ideal.ofBits FTy.f32 0xBA83126F#32 *
    (Ideal.div (Ideal.div (newM m g) (Ideal.ofBits FTy.f32 0x3F26BD02#32))
        (Ideal.sqrt (Ideal.div (newV v g) (Ideal.ofBits FTy.f32 0x3C231ACC#32)) + Ideal.ofBits FTy.f32 0x322BCC77#32)
      + Ideal.ofBits FTy.f32 0x3C23D70A#32 * w)

end Cert.Proof.Adam
-- ==== Proof.Adam.AdamWr.lean ====
/-
  The optimiser's step on one weight of a linear layer of the delta-rule mixer (receptance, key, value and the two output layers have the same shape),
  kernel against reference, at the ideal instance: the blocks tile the array, and at each place the step is the
  same arithmetic of the summed gradient.
-/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamWr

open Adam
open Idealize.ShloMosaic Idealize.ShloMosaic.TcCoe Idealize.SL.Sem
open Cert.Kernel17Ideal Cert.Kernel17Ideal.Gen

/-- The block of each array that grid point `t` works on. -/
theorem idx : ∀ t : Fin cfg0.N, win0_0.index t = ![0, 0, t.val] ∧ win0_1.index t = ![0, 0, t.val] ∧
    win0_2.index t = ![0, 0, t.val] ∧ win0_3.index t = ![0, 0, t.val] ∧ win0_4.index t = ![0, 0, t.val] ∧
    win0_5.index t = ![0, 0, t.val] ∧ win0_6.index t = ![0, 0, t.val] ∧ win0_7.index t = ![0, 0, t.val] :=
  (by decide +kernel : ∀ t : Fin grid0.N, _)

variable (m : (ℓ : Loc nD τ sig) → Buf (Elt Ideal) ℓ) (c : Dev nD)

/-- The summed gradient. -/
abbrev outG : S1x256x2048.Idx → EReal := fun i => grad (m (c.tc.loc main_arg0)) (i 1) (i 2)

/-- What is added to the weight. -/
abbrev outD : S1x256x2048.Idx → EReal :=
  fun i => delta (m (c.tc.loc main_arg1) i) (m (c.tc.loc main_arg2) i) (m (c.tc.loc main_arg3) i) (outG m c i)

/-- The first moment. -/
abbrev outM : S1x256x2048.Idx → EReal := fun i => newM (m (c.tc.loc main_arg2) i) (outG m c i)

/-- The second moment. -/
abbrev outV : S1x256x2048.Idx → EReal := fun i => newV (m (c.tc.loc main_arg3) i) (outG m c i)

/-- The kernel's results: the summed gradient, what is added to the weight, and the two moments. -/
theorem finals : (dats m 0 c).arrAt 4 cfg0.N = outG m c ∧
    (dats m 0 c).arrAt 5 cfg0.N = outD m c ∧
    (dats m 0 c).arrAt 6 cfg0.N = outM m c ∧
    (dats m 0 c).arrAt 7 cfg0.N = outV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    simp only [after0_4, after0_5, after0_6, after0_7]
    frame_out
    idx_vars y
    unfold_payloads
    pointwise
    simp only [outG, outD, outM, outV, delta, newM, newV, grad, Fin.sum_univ_eight, Fin.sum_univ_one]
    blk_point [iblk, V, idx t]

/-- Kernel and reference leave the same gradient, the same step and the same moments. -/
theorem algebraic : Cert.algebraic_Kernel17Ideal_Reference17Ideal := by
  pair_intro
  · run_from Cert.Kernel17Ideal.Value.run_blocks m g
  · refine θ_run_mono (Cert.Reference17Ideal.Value.run m' g') fun r hr c => ?_
    obtain ⟨h0, h1, h2, h3, h⟩ := hr c
    obtain ⟨f0, f1, f2, f3⟩ := finals m c
    obtain ⟨a0, a1, a2, a3⟩ := hagree c
    refine ⟨h0.trans ?_, h1.trans ?_, h2.trans ?_, h3.trans ?_, h⟩
    all_goals clear h0 h1 h2 h3 h hr
    · rw [f0, a0]
      funext i
      idx_vars i; pointwise; rfl
    · rw [f1, a0, a1, a2, a3]
      funext i
      idx_vars i; pointwise; rfl
    · rw [f2, a0, a2]
      funext i
      idx_vars i; pointwise; rfl
    · rw [f3, a0, a3]
      funext i
      idx_vars i; pointwise; rfl

/-- The reference ends, its arguments unchanged; it declares no semaphore. -/
theorem frameR : Cert.quiescent_Reference17Ideal := by
  intro m ρ _
  run_from Cert.Reference17Ideal.Value.run m ρ
  · exact fun _ => ⟨trivial, trivial, trivial, trivial⟩
  · funext x
    rcases x with ⟨_, ⟨i⟩ | ⟨i⟩⟩ <;> exact i.elim0

end Cert.Proof.AdamWr
-- ==== Proof.Adam.AdamWin.lean ====
/-
  The optimiser's step on the weight of the convolution's input layer,
  kernel against reference, at the ideal instance: the blocks tile the array, and at each place the step is the
  same arithmetic of the summed gradient.
-/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamWin

open Adam
open Idealize.ShloMosaic Idealize.ShloMosaic.TcCoe Idealize.SL.Sem
open Cert.Kernel18Ideal Cert.Kernel18Ideal.Gen

/-- The block of each array that grid point `t` works on. -/
theorem idx : ∀ t : Fin cfg0.N, win0_0.index t = ![0, t.val, 0] ∧ win0_1.index t = ![0, t.val, 0] ∧
    win0_2.index t = ![0, t.val, 0] ∧ win0_3.index t = ![0, t.val, 0] ∧ win0_4.index t = ![0, t.val, 0] ∧
    win0_5.index t = ![0, t.val, 0] ∧ win0_6.index t = ![0, t.val, 0] ∧ win0_7.index t = ![0, t.val, 0] :=
  (by decide +kernel : ∀ t : Fin grid0.N, _)

variable (m : (ℓ : Loc nD τ sig) → Buf (Elt Ideal) ℓ) (c : Dev nD)

/-- The summed gradient. -/
abbrev outG : S1x2048x768.Idx → EReal := fun i => grad (m (c.tc.loc main_arg0)) (i 1) (i 2)

/-- What is added to the weight. -/
abbrev outD : S1x2048x768.Idx → EReal :=
  fun i => delta (m (c.tc.loc main_arg1) i) (m (c.tc.loc main_arg2) i) (m (c.tc.loc main_arg3) i) (outG m c i)

/-- The first moment. -/
abbrev outM : S1x2048x768.Idx → EReal := fun i => newM (m (c.tc.loc main_arg2) i) (outG m c i)

/-- The second moment. -/
abbrev outV : S1x2048x768.Idx → EReal := fun i => newV (m (c.tc.loc main_arg3) i) (outG m c i)

/-- The kernel's results: the summed gradient, what is added to the weight, and the two moments. -/
theorem finals : (dats m 0 c).arrAt 4 cfg0.N = outG m c ∧
    (dats m 0 c).arrAt 5 cfg0.N = outD m c ∧
    (dats m 0 c).arrAt 6 cfg0.N = outM m c ∧
    (dats m 0 c).arrAt 7 cfg0.N = outV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    simp only [after0_4, after0_5, after0_6, after0_7]
    frame_out
    idx_vars y
    unfold_payloads
    pointwise
    simp only [outG, outD, outM, outV, delta, newM, newV, grad, Fin.sum_univ_eight, Fin.sum_univ_one]
    blk_point [iblk, V, idx t]

/-- Kernel and reference leave the same gradient, the same step and the same moments. -/
theorem algebraic : Cert.algebraic_Kernel18Ideal_Reference18Ideal := by
  pair_intro
  · run_from Cert.Kernel18Ideal.Value.run_blocks m g
  · refine θ_run_mono (Cert.Reference18Ideal.Value.run m' g') fun r hr c => ?_
    obtain ⟨h0, h1, h2, h3, h⟩ := hr c
    obtain ⟨f0, f1, f2, f3⟩ := finals m c
    obtain ⟨a0, a1, a2, a3⟩ := hagree c
    refine ⟨h0.trans ?_, h1.trans ?_, h2.trans ?_, h3.trans ?_, h⟩
    all_goals clear h0 h1 h2 h3 h hr
    · rw [f0, a0]
      funext i
      idx_vars i; pointwise; rfl
    · rw [f1, a0, a1, a2, a3]
      funext i
      idx_vars i; pointwise; rfl
    · rw [f2, a0, a2]
      funext i
      idx_vars i; pointwise; rfl
    · rw [f3, a0, a3]
      funext i
      idx_vars i; pointwise; rfl

/-- The reference ends, its arguments unchanged; it declares no semaphore. -/
theorem frameR : Cert.quiescent_Reference18Ideal := by
  intro m ρ _
  run_from Cert.Reference18Ideal.Value.run m ρ
  · exact fun _ => ⟨trivial, trivial, trivial, trivial⟩
  · funext x
    rcases x with ⟨_, ⟨i⟩ | ⟨i⟩⟩ <;> exact i.elim0

end Cert.Proof.AdamWin
-- ==== Proof.Adam.AdamRep.lean ====
/-
  The optimiser's step on the replicated weights, packed into one array,
  kernel against reference, at the ideal instance: the blocks tile the array, and at each place the step is the
  same arithmetic of the summed gradient.
-/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamRep

open Adam
open Idealize.ShloMosaic Idealize.ShloMosaic.TcCoe Idealize.SL.Sem
open Cert.Kernel19Ideal Cert.Kernel19Ideal.Gen

/-- The block of each array that grid point `t` works on. -/
theorem idx : ∀ t : Fin cfg0.N, win0_0.index t = ![0, 0, 0] ∧ win0_1.index t = ![0, 0] ∧
    win0_2.index t = ![0, 0] ∧ win0_3.index t = ![0, 0] ∧ win0_4.index t = ![0, 0] ∧
    win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD)

/-- The summed gradient. -/
abbrev outG : S176x128.Idx → EReal := fun i => grad (m (c.tc.loc main_arg0)) (i 0) (i 1)

/-- What is added to the weight. -/
abbrev outD : S176x128.Idx → EReal :=
  fun i => delta (m (c.tc.loc main_arg1) i) (m (c.tc.loc main_arg2) i) (m (c.tc.loc main_arg3) i) (outG m c i)

/-- The first moment. -/
abbrev outM : S176x128.Idx → EReal := fun i => newM (m (c.tc.loc main_arg2) i) (outG m c i)

/-- The second moment. -/
abbrev outV : S176x128.Idx → EReal := fun i => newV (m (c.tc.loc main_arg3) i) (outG m c i)

/-- The kernel's results: the summed gradient, what is added to the weight, and the two moments. -/
theorem finals : (dats m 0 c).arrAt 4 cfg0.N = outG m c ∧
    (dats m 0 c).arrAt 5 cfg0.N = outD m c ∧
    (dats m 0 c).arrAt 6 cfg0.N = outM m c ∧
    (dats m 0 c).arrAt 7 cfg0.N = outV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    simp only [after0_4, after0_5, after0_6, after0_7]
    frame_out
    idx_vars y
    unfold_payloads
    pointwise
    simp only [outG, outD, outM, outV, delta, newM, newV, grad, Fin.sum_univ_eight, Fin.sum_univ_one]
    blk_point [iblk, V, idx t]

/-- Kernel and reference leave the same gradient, the same step and the same moments. -/
theorem algebraic : Cert.algebraic_Kernel19Ideal_Reference19Ideal := by
  pair_intro
  · run_from Cert.Kernel19Ideal.Value.run_blocks m g
  · refine θ_run_mono (Cert.Reference19Ideal.Value.run m' g') fun r hr c => ?_
    obtain ⟨h0, h1, h2, h3, h⟩ := hr c
    obtain ⟨f0, f1, f2, f3⟩ := finals m c
    obtain ⟨a0, a1, a2, a3⟩ := hagree c
    refine ⟨h0.trans ?_, h1.trans ?_, h2.trans ?_, h3.trans ?_, h⟩
    all_goals clear h0 h1 h2 h3 h hr
    · rw [f0, a0]
      funext i
      idx_vars i; pointwise; rfl
    · rw [f1, a0, a1, a2, a3]
      funext i
      idx_vars i; pointwise; rfl
    · rw [f2, a0, a2]
      funext i
      idx_vars i; pointwise; rfl
    · rw [f3, a0, a3]
      funext i
      idx_vars i; pointwise; rfl

/-- The reference ends, its arguments unchanged; it declares no semaphore. -/
theorem frameR : Cert.quiescent_Reference19Ideal := by
  intro m ρ _
  run_from Cert.Reference19Ideal.Value.run m ρ
  · exact fun _ => ⟨trivial, trivial, trivial, trivial⟩
  · funext x
    rcases x with ⟨_, ⟨i⟩ | ⟨i⟩⟩ <;> exact i.elim0

end Cert.Proof.AdamRep
-- ==== Proof.Adam.AdamSmallVec.lean ====
/-
  The optimiser's step on the sharded vectors, packed into one array,
  kernel against reference, at the ideal instance: the blocks tile the array, and at each place the step is the
  same arithmetic of the summed gradient.
-/
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamSmallVec

open Adam
open Idealize.ShloMosaic Idealize.ShloMosaic.TcCoe Idealize.SL.Sem
open Cert.Kernel20Ideal Cert.Kernel20Ideal.Gen

/-- The block of each array that grid point `t` works on. -/
theorem idx : ∀ t : Fin cfg0.N, win0_0.index t = ![0, 0, 0] ∧ win0_1.index t = ![0, 0] ∧
    win0_2.index t = ![0, 0] ∧ win0_3.index t = ![0, 0] ∧ win0_4.index t = ![0, 0] ∧
    win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD)

/-- The summed gradient. -/
abbrev outG : S32x128.Idx → EReal := fun i => grad (m (c.tc.loc main_arg0)) (i 0) (i 1)

/-- What is added to the weight. -/
abbrev outD : S32x128.Idx → EReal :=
  fun i => delta (m (c.tc.loc main_arg1) i) (m (c.tc.loc main_arg2) i) (m (c.tc.loc main_arg3) i) (outG m c i)

/-- The first moment. -/
abbrev outM : S32x128.Idx → EReal := fun i => newM (m (c.tc.loc main_arg2) i) (outG m c i)

/-- The second moment. -/
abbrev outV : S32x128.Idx → EReal := fun i => newV (m (c.tc.loc main_arg3) i) (outG m c i)

/-- The kernel's results: the summed gradient, what is added to the weight, and the two moments. -/
theorem finals : (dats m 0 c).arrAt 4 cfg0.N = outG m c ∧
    (dats m 0 c).arrAt 5 cfg0.N = outD m c ∧
    (dats m 0 c).arrAt 6 cfg0.N = outM m c ∧
    (dats m 0 c).arrAt 7 cfg0.N = outV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    simp only [after0_4, after0_5, after0_6, after0_7]
    frame_out
    idx_vars y
    unfold_payloads
    pointwise
    simp only [outG, outD, outM, outV, delta, newM, newV, grad, Fin.sum_univ_eight, Fin.sum_univ_one]
    blk_point [iblk, V, idx t]

/-- Kernel and reference leave the same gradient, the same step and the same moments. -/
theorem algebraic : Cert.algebraic_Kernel20Ideal_Reference20Ideal := by
  pair_intro
  · run_from Cert.Kernel20Ideal.Value.run_blocks m g
  · refine θ_run_mono (Cert.Reference20Ideal.Value.run m' g') fun r hr c => ?_
    obtain ⟨h0, h1, h2, h3, h⟩ := hr c
    obtain ⟨f0, f1, f2, f3⟩ := finals m c
    obtain ⟨a0, a1, a2, a3⟩ := hagree c
    refine ⟨h0.trans ?_, h1.trans ?_, h2.trans ?_, h3.trans ?_, h⟩
    all_goals clear h0 h1 h2 h3 h hr
    · rw [f0, a0]
      funext i
      idx_vars i; pointwise; rfl
    · rw [f1, a0, a1, a2, a3]
      funext i
      idx_vars i; pointwise; rfl
    · rw [f2, a0, a2]
      funext i
      idx_vars i; pointwise; rfl
    · rw [f3, a0, a3]
      funext i
      idx_vars i; pointwise; rfl

/-- The reference ends, its arguments unchanged; it declares no semaphore. -/
theorem frameR : Cert.quiescent_Reference20Ideal := by
  intro m ρ _
  run_from Cert.Reference20Ideal.Value.run m ρ
  · exact fun _ => ⟨trivial, trivial, trivial, trivial⟩
  · funext x
    rcases x with ⟨_, ⟨i⟩ | ⟨i⟩⟩ <;> exact i.elim0

end Cert.Proof.AdamSmallVec
-- ==== Proof.Adam.AdamSmallMat.lean ====
/-
  The optimiser's step on the small matrices, packed into one array,
  kernel against reference, at the ideal instance: the blocks tile the array, and at each place the step is the
  same arithmetic of the summed gradient.
-/
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamSmallMat

open Adam
open Idealize.ShloMosaic Idealize.ShloMosaic.TcCoe Idealize.SL.Sem
open Cert.Kernel21Ideal Cert.Kernel21Ideal.Gen

/-- The block of each array that grid point `t` works on. -/
theorem idx : ∀ t : Fin cfg0.N, win0_0.index t = ![0, t.val, 0] ∧ win0_1.index t = ![t.val, 0] ∧
    win0_2.index t = ![t.val, 0] ∧ win0_3.index t = ![t.val, 0] ∧ win0_4.index t = ![t.val, 0] ∧
    win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The summed gradient. -/
abbrev outG : S3072x128.Idx → EReal := fun i => grad (m (c.tc.loc main_arg0)) (i 0) (i 1)

/-- What is added to the weight. -/
abbrev outD : S3072x128.Idx → EReal :=
  fun i => delta (m (c.tc.loc main_arg1) i) (m (c.tc.loc main_arg2) i) (m (c.tc.loc main_arg3) i) (outG m c i)

/-- The first moment. -/
abbrev outM : S3072x128.Idx → EReal := fun i => newM (m (c.tc.loc main_arg2) i) (outG m c i)

/-- The second moment. -/
abbrev outV : S3072x128.Idx → EReal := fun i => newV (m (c.tc.loc main_arg3) i) (outG m c i)

/-- The kernel's results: the summed gradient, what is added to the weight, and the two moments. -/
theorem finals : (dats m 0 c).arrAt 4 cfg0.N = outG m c ∧
    (dats m 0 c).arrAt 5 cfg0.N = outD m c ∧
    (dats m 0 c).arrAt 6 cfg0.N = outM m c ∧
    (dats m 0 c).arrAt 7 cfg0.N = outV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    simp only [after0_4, after0_5, after0_6, after0_7]
    frame_out
    idx_vars y
    unfold_payloads
    pointwise
    simp only [outG, outD, outM, outV, delta, newM, newV, grad, Fin.sum_univ_eight, Fin.sum_univ_one]
    blk_point [iblk, V, idx t]

/-- Kernel and reference leave the same gradient, the same step and the same moments. -/
theorem algebraic : Cert.algebraic_Kernel21Ideal_Reference21Ideal := by
  pair_intro
  · run_from Cert.Kernel21Ideal.Value.run_blocks m g
  · refine θ_run_mono (Cert.Reference21Ideal.Value.run m' g') fun r hr c => ?_
    obtain ⟨h0, h1, h2, h3, h⟩ := hr c
    obtain ⟨f0, f1, f2, f3⟩ := finals m c
    obtain ⟨a0, a1, a2, a3⟩ := hagree c
    refine ⟨h0.trans ?_, h1.trans ?_, h2.trans ?_, h3.trans ?_, h⟩
    all_goals clear h0 h1 h2 h3 h hr
    · rw [f0, a0]
      funext i
      idx_vars i; pointwise; rfl
    · rw [f1, a0, a1, a2, a3]
      funext i
      idx_vars i; pointwise; rfl
    · rw [f2, a0, a2]
      funext i
      idx_vars i; pointwise; rfl
    · rw [f3, a0, a3]
      funext i
      idx_vars i; pointwise; rfl

/-- The reference ends, its arguments unchanged; it declares no semaphore. -/
theorem frameR : Cert.quiescent_Reference21Ideal := by
  intro m ρ _
  run_from Cert.Reference21Ideal.Value.run m ρ
  · exact fun _ => ⟨trivial, trivial, trivial, trivial⟩
  · funext x
    rcases x with ⟨_, ⟨i⟩ | ⟨i⟩⟩ <;> exact i.elim0

end Cert.Proof.AdamSmallMat
-- ==== Proof.Adam.AdamAdaB.lean ====
/-
  The optimiser's step on the bias of the conditioning layer,
  kernel against reference, at the ideal instance: the blocks tile the array, and at each place the step is the
  same arithmetic of the summed gradient.
-/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamAdaB

open Adam
open Idealize.ShloMosaic Idealize.ShloMosaic.TcCoe Idealize.SL.Sem
open Cert.Kernel22Ideal Cert.Kernel22Ideal.Gen

/-- The block of each array that grid point `t` works on. -/
theorem idx : ∀ t : Fin cfg0.N, win0_0.index t = ![0, 0, t.val] ∧ win0_1.index t = ![0, t.val] ∧
    win0_2.index t = ![0, t.val] ∧ win0_3.index t = ![0, t.val] ∧ win0_4.index t = ![0, t.val] ∧
    win0_5.index t = ![0, t.val] ∧ win0_6.index t = ![0, t.val] ∧ win0_7.index t = ![0, t.val] :=
  (by decide +kernel : ∀ t : Fin grid0.N, _)

variable (m : (ℓ : Loc nD τ sig) → Buf (Elt Ideal) ℓ) (c : Dev nD)

/-- The summed gradient. -/
abbrev outG : S12x2048.Idx → EReal := fun i => grad (m (c.tc.loc main_arg0)) (i 0) (i 1)

/-- What is added to the weight. -/
abbrev outD : S12x2048.Idx → EReal :=
  fun i => delta (m (c.tc.loc main_arg1) i) (m (c.tc.loc main_arg2) i) (m (c.tc.loc main_arg3) i) (outG m c i)

/-- The first moment. -/
abbrev outM : S12x2048.Idx → EReal := fun i => newM (m (c.tc.loc main_arg2) i) (outG m c i)

/-- The second moment. -/
abbrev outV : S12x2048.Idx → EReal := fun i => newV (m (c.tc.loc main_arg3) i) (outG m c i)

/-- The kernel's results: the summed gradient, what is added to the weight, and the two moments. -/
theorem finals : (dats m 0 c).arrAt 4 cfg0.N = outG m c ∧
    (dats m 0 c).arrAt 5 cfg0.N = outD m c ∧
    (dats m 0 c).arrAt 6 cfg0.N = outM m c ∧
    (dats m 0 c).arrAt 7 cfg0.N = outV m c := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    simp only [after0_4, after0_5, after0_6, after0_7]
    frame_out
    idx_vars y
    unfold_payloads
    pointwise
    simp only [outG, outD, outM, outV, delta, newM, newV, grad, Fin.sum_univ_eight, Fin.sum_univ_one]
    blk_point [iblk, V, idx t]

/-- Kernel and reference leave the same gradient, the same step and the same moments. -/
theorem algebraic : Cert.algebraic_Kernel22Ideal_Reference22Ideal := by
  pair_intro
  · run_from Cert.Kernel22Ideal.Value.run_blocks m g
  · refine θ_run_mono (Cert.Reference22Ideal.Value.run m' g') fun r hr c => ?_
    obtain ⟨h0, h1, h2, h3, h⟩ := hr c
    obtain ⟨f0, f1, f2, f3⟩ := finals m c
    obtain ⟨a0, a1, a2, a3⟩ := hagree c
    refine ⟨h0.trans ?_, h1.trans ?_, h2.trans ?_, h3.trans ?_, h⟩
    all_goals clear h0 h1 h2 h3 h hr
    · rw [f0, a0]
      funext i
      idx_vars i; pointwise; rfl
    · rw [f1, a0, a1, a2, a3]
      funext i
      idx_vars i; pointwise; rfl
    · rw [f2, a0, a2]
      funext i
      idx_vars i; pointwise; rfl
    · rw [f3, a0, a3]
      funext i
      idx_vars i; pointwise; rfl

/-- The reference ends, its arguments unchanged; it declares no semaphore. -/
theorem frameR : Cert.quiescent_Reference22Ideal := by
  intro m ρ _
  run_from Cert.Reference22Ideal.Value.run m ρ
  · exact fun _ => ⟨trivial, trivial, trivial, trivial⟩
  · funext x
    rcases x with ⟨_, ⟨i⟩ | ⟨i⟩⟩ <;> exact i.elim0

end Cert.Proof.AdamAdaB
-- ==== Proof.Adam.AdamW13Second.lean ====
/-
  The optimiser's step on the second layer of the feed-forward input weight,
  kernel against reference, at the ideal instance: the blocks tile the layer, and at each place the step is the
  same arithmetic of the summed gradient. The first layer is left as it was given.
-/
module

public import proofs.«01_k».proof.Defs
public import proofs.«01_k».proof.Proof.Gen.Kernel23Ideal.Value
public import proofs.«01_k».proof.Proof.Gen.Reference23Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamW13Second

open Adam
open Idealize.ShloMosaic Idealize.ShloMosaic.TcCoe Idealize.SL.Sem
open Cert.Kernel23Ideal Cert.Kernel23Ideal.Gen

/-- The block of each array that grid point `t` works on. -/
theorem idx : ∀ t : Fin cfg0.N, win0_0.index t = ![0, 0, t.val] ∧ win0_1.index t = ![1, 0, t.val] ∧
    win0_2.index t = ![1, 0, t.val] ∧ win0_3.index t = ![1, 0, t.val] ∧ win0_4.index t = ![1, 0, t.val] ∧
    win0_5.index t = ![1, 0, t.val] ∧ win0_6.index t = ![1, 0, t.val] ∧ win0_7.index t = ![1, 0, t.val] :=
  (by decide +kernel : ∀ t : Fin grid0.N, _)

variable (m : (ℓ : Loc nD τ sig) → Buf (Elt Ideal) ℓ) (c : Dev nD)

/-- The summed gradient. -/
abbrev outG : S2x2048x1408.Idx → EReal := fun i => grad (m (c.tc.loc main_arg0)) (i 1) (i 2)

/-- What is added to the weight. -/
abbrev outD : S2x2048x1408.Idx → EReal :=
  fun i => delta (m (c.tc.loc main_arg1) i) (m (c.tc.loc main_arg2) i) (m (c.tc.loc main_arg3) i) (outG m c i)

/-- The first moment. -/
abbrev outM : S2x2048x1408.Idx → EReal := fun i => newM (m (c.tc.loc main_arg2) i) (outG m c i)

/-- The second moment. -/
abbrev outV : S2x2048x1408.Idx → EReal := fun i => newV (m (c.tc.loc main_arg3) i) (outG m c i)

/-- Both layers of a result: the first as it was given, the second as the step leaves it. -/
abbrev layers (first second : S2x2048x1408.Idx → EReal) : S2x2048x1408.Idx → EReal :=
  fun i => if (i 0 : Fin 2).val = 1 then second i else first i

/-- The kernel's results: the summed gradient, what is added to the weight, and the two moments. -/
theorem finals : (dats m 0 c).arrAt 4 cfg0.N = layers (m (c.tc.loc main_arg4)) (outG m c) ∧
    (dats m 0 c).arrAt 5 cfg0.N = layers (m (c.tc.loc main_arg5)) (outD m c) ∧
    (dats m 0 c).arrAt 6 cfg0.N = layers (m (c.tc.loc main_arg6)) (outM m c) ∧
    (dats m 0 c).arrAt 7 cfg0.N = layers (m (c.tc.loc main_arg7)) (outV m c) := by
  refine ⟨((dats m 0 c).arrAt_eq_of_coversWhere 4 (outG m c) (P := fun i => (i 0 : Fin 2).val = 1)
      (fun β => β (0 : Fin _) = 1) (by decide +kernel) (fun t hf y => ?_) (fun j => ?_)).trans
      (funext fun i => show ite _ _ (V m c main_v0_0 i) = _ from ?_),
    ((dats m 0 c).arrAt_eq_of_coversWhere 5 (outD m c) (P := fun i => (i 0 : Fin 2).val = 1)
      (fun β => β (0 : Fin _) = 1) (by decide +kernel) (fun t hf y => ?_) (fun j => ?_)).trans
      (funext fun i => show ite _ _ (V m c main_v0_1 i) = _ from ?_),
    ((dats m 0 c).arrAt_eq_of_coversWhere 6 (outM m c) (P := fun i => (i 0 : Fin 2).val = 1)
      (fun β => β (0 : Fin _) = 1) (by decide +kernel) (fun t hf y => ?_) (fun j => ?_)).trans
      (funext fun i => show ite _ _ (V m c main_v0_2 i) = _ from ?_),
    ((dats m 0 c).arrAt_eq_of_coversWhere 7 (outV m c) (P := fun i => (i 0 : Fin 2).val = 1)
      (fun β => β (0 : Fin _) = 1) (by decide +kernel) (fun t hf y => ?_) (fun j => ?_)).trans
      (funext fun i => show ite _ _ (V m c main_v0_3 i) = _ from ?_)⟩
  on_goal 3 => entry_read; rfl
  on_goal 5 => entry_read; rfl
  on_goal 7 => entry_read; rfl
  on_goal 9 => entry_read; rfl
  on_goal 2 => blk_simp [Pipeline.Window.cell_apply]; omega
  on_goal 3 => blk_simp [Pipeline.Window.cell_apply]; omega
  on_goal 4 => blk_simp [Pipeline.Window.cell_apply]; omega
  on_goal 5 => blk_simp [Pipeline.Window.cell_apply]; omega
  all_goals
    blk_simp
    simp only [after0_4, after0_5, after0_6, after0_7, outsAt0]
    frame_out
    idx_vars y
    unfold_payloads
    pointwise
    simp only [outG, outD, outM, outV, delta, newM, newV, grad, Fin.sum_univ_eight, Fin.sum_univ_one]
    blk_point [iblk, V_main_arg0, V_main_arg1, V_main_arg2, V_main_arg3, idx t]

/-- Kernel and reference leave the same gradient, the same step and the same moments. -/
theorem algebraic : Cert.algebraic_Kernel23Ideal_Reference23Ideal := by
  pair_intro
  · run_from Cert.Kernel23Ideal.Value.run_blocks m g
  · refine θ_run_mono (Cert.Reference23Ideal.Value.run m' g') fun r hr c => ?_
    obtain ⟨h0, h1, h2, h3, h⟩ := hr c
    obtain ⟨f0, f1, f2, f3⟩ := finals m c
    obtain ⟨a0, a1, a2, a3, a4, a5, a6, a7⟩ := hagree c
    refine ⟨h0.trans ?_, h1.trans ?_, h2.trans ?_, h3.trans ?_, h⟩
    all_goals clear h0 h1 h2 h3 h hr
    · rw [f0, a0, a4]
      funext i
      idx_vars i; pointwise; obtain rfl | rfl : i0 = 0 ∨ i0 = 1 := by omega
      all_goals rfl
    · rw [f1, a0, a1, a2, a3, a5]
      funext i
      idx_vars i; pointwise; obtain rfl | rfl : i0 = 0 ∨ i0 = 1 := by omega
      all_goals rfl
    · rw [f2, a0, a2, a6]
      funext i
      idx_vars i; pointwise; obtain rfl | rfl : i0 = 0 ∨ i0 = 1 := by omega
      all_goals rfl
    · rw [f3, a0, a3, a7]
      funext i
      idx_vars i; pointwise; obtain rfl | rfl : i0 = 0 ∨ i0 = 1 := by omega
      all_goals rfl

/-- The reference ends, its arguments unchanged; it declares no semaphore. -/
theorem frameR : Cert.quiescent_Reference23Ideal := by
  intro m ρ _
  run_from Cert.Reference23Ideal.Value.run m ρ
  · exact fun _ => ⟨trivial, trivial, trivial, trivial, trivial, trivial, trivial, trivial⟩
  · funext x
    rcases x with ⟨_, ⟨i⟩ | ⟨i⟩⟩ <;> exact i.elim0

end Cert.Proof.AdamW13Second
-- ==== Proof.Adam.AdamW2Second.lean ====
/-
  The optimiser's step on the second layer of the feed-forward output weight,
  kernel against reference, at the ideal instance: the blocks tile the layer, and at each place the step is the
  same arithmetic of the summed gradient. The first layer is left as it was given.
-/
module

public import proofs.«01_k».proof.Defs
public import proofs.«01_k».proof.Proof.Gen.Kernel24Ideal.Value
public import proofs.«01_k».proof.Proof.Gen.Reference24Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamW2Second

open Adam
open Idealize.ShloMosaic Idealize.ShloMosaic.TcCoe Idealize.SL.Sem
open Cert.Kernel24Ideal Cert.Kernel24Ideal.Gen

/-- The block of each array that grid point `t` works on. -/
theorem idx : ∀ t : Fin cfg0.N, win0_0.index t = ![0, t.val / 2, t.val % 2] ∧ win0_1.index t = ![1, t.val / 2, t.val % 2] ∧
    win0_2.index t = ![1, t.val / 2, t.val % 2] ∧ win0_3.index t = ![1, t.val / 2, t.val % 2] ∧ win0_4.index t = ![1, t.val / 2, t.val % 2] ∧
    win0_5.index t = ![1, t.val / 2, t.val % 2] ∧ win0_6.index t = ![1, t.val / 2, t.val % 2] ∧ win0_7.index t = ![1, t.val / 2, t.val % 2] :=
  (by decide +kernel : ∀ t : Fin grid0.N, _)

variable (m : (ℓ : Loc nD τ sig) → Buf (Elt Ideal) ℓ) (c : Dev nD)

/-- The summed gradient. -/
abbrev outG : S2x704x2048.Idx → EReal := fun i => grad (m (c.tc.loc main_arg0)) (i 1) (i 2)

/-- What is added to the weight. -/
abbrev outD : S2x704x2048.Idx → EReal :=
  fun i => delta (m (c.tc.loc main_arg1) i) (m (c.tc.loc main_arg2) i) (m (c.tc.loc main_arg3) i) (outG m c i)

/-- The first moment. -/
abbrev outM : S2x704x2048.Idx → EReal := fun i => newM (m (c.tc.loc main_arg2) i) (outG m c i)

/-- The second moment. -/
abbrev outV : S2x704x2048.Idx → EReal := fun i => newV (m (c.tc.loc main_arg3) i) (outG m c i)

/-- Both layers of a result: the first as it was given, the second as the step leaves it. -/
abbrev layers (first second : S2x704x2048.Idx → EReal) : S2x704x2048.Idx → EReal :=
  fun i => if (i 0 : Fin 2).val = 1 then second i else first i

/-- The kernel's results: the summed gradient, what is added to the weight, and the two moments. -/
theorem finals : (dats m 0 c).arrAt 4 cfg0.N = layers (m (c.tc.loc main_arg4)) (outG m c) ∧
    (dats m 0 c).arrAt 5 cfg0.N = layers (m (c.tc.loc main_arg5)) (outD m c) ∧
    (dats m 0 c).arrAt 6 cfg0.N = layers (m (c.tc.loc main_arg6)) (outM m c) ∧
    (dats m 0 c).arrAt 7 cfg0.N = layers (m (c.tc.loc main_arg7)) (outV m c) := by
  refine ⟨((dats m 0 c).arrAt_eq_of_coversWhere 4 (outG m c) (P := fun i => (i 0 : Fin 2).val = 1)
      (fun β => β (0 : Fin _) = 1) (by decide +kernel) (fun t hf y => ?_) (fun j => ?_)).trans
      (funext fun i => show ite _ _ (V m c main_v0_0 i) = _ from ?_),
    ((dats m 0 c).arrAt_eq_of_coversWhere 5 (outD m c) (P := fun i => (i 0 : Fin 2).val = 1)
      (fun β => β (0 : Fin _) = 1) (by decide +kernel) (fun t hf y => ?_) (fun j => ?_)).trans
      (funext fun i => show ite _ _ (V m c main_v0_1 i) = _ from ?_),
    ((dats m 0 c).arrAt_eq_of_coversWhere 6 (outM m c) (P := fun i => (i 0 : Fin 2).val = 1)
      (fun β => β (0 : Fin _) = 1) (by decide +kernel) (fun t hf y => ?_) (fun j => ?_)).trans
      (funext fun i => show ite _ _ (V m c main_v0_2 i) = _ from ?_),
    ((dats m 0 c).arrAt_eq_of_coversWhere 7 (outV m c) (P := fun i => (i 0 : Fin 2).val = 1)
      (fun β => β (0 : Fin _) = 1) (by decide +kernel) (fun t hf y => ?_) (fun j => ?_)).trans
      (funext fun i => show ite _ _ (V m c main_v0_3 i) = _ from ?_)⟩
  on_goal 3 => entry_read; rfl
  on_goal 5 => entry_read; rfl
  on_goal 7 => entry_read; rfl
  on_goal 9 => entry_read; rfl
  on_goal 2 => blk_simp [Pipeline.Window.cell_apply]; omega
  on_goal 3 => blk_simp [Pipeline.Window.cell_apply]; omega
  on_goal 4 => blk_simp [Pipeline.Window.cell_apply]; omega
  on_goal 5 => blk_simp [Pipeline.Window.cell_apply]; omega
  all_goals
    blk_simp
    simp only [after0_4, after0_5, after0_6, after0_7, outsAt0]
    frame_out
    idx_vars y
    unfold_payloads
    pointwise
    simp only [outG, outD, outM, outV, delta, newM, newV, grad, Fin.sum_univ_eight, Fin.sum_univ_one]
    blk_point [iblk, V_main_arg0, V_main_arg1, V_main_arg2, V_main_arg3, idx t]

/-- Kernel and reference leave the same gradient, the same step and the same moments. -/
theorem algebraic : Cert.algebraic_Kernel24Ideal_Reference24Ideal := by
  pair_intro
  · run_from Cert.Kernel24Ideal.Value.run_blocks m g
  · refine θ_run_mono (Cert.Reference24Ideal.Value.run m' g') fun r hr c => ?_
    obtain ⟨h0, h1, h2, h3, h⟩ := hr c
    obtain ⟨f0, f1, f2, f3⟩ := finals m c
    obtain ⟨a0, a1, a2, a3, a4, a5, a6, a7⟩ := hagree c
    refine ⟨h0.trans ?_, h1.trans ?_, h2.trans ?_, h3.trans ?_, h⟩
    all_goals clear h0 h1 h2 h3 h hr
    · rw [f0, a0, a4]
      funext i
      idx_vars i; pointwise; obtain rfl | rfl : i0 = 0 ∨ i0 = 1 := by omega
      all_goals rfl
    · rw [f1, a0, a1, a2, a3, a5]
      funext i
      idx_vars i; pointwise; obtain rfl | rfl : i0 = 0 ∨ i0 = 1 := by omega
      all_goals rfl
    · rw [f2, a0, a2, a6]
      funext i
      idx_vars i; pointwise; obtain rfl | rfl : i0 = 0 ∨ i0 = 1 := by omega
      all_goals rfl
    · rw [f3, a0, a3, a7]
      funext i
      idx_vars i; pointwise; obtain rfl | rfl : i0 = 0 ∨ i0 = 1 := by omega
      all_goals rfl

/-- The reference ends, its arguments unchanged; it declares no semaphore. -/
theorem frameR : Cert.quiescent_Reference24Ideal := by
  intro m ρ _
  run_from Cert.Reference24Ideal.Value.run m ρ
  · exact fun _ => ⟨trivial, trivial, trivial, trivial, trivial, trivial, trivial, trivial⟩
  · funext x
    rcases x with ⟨_, ⟨i⟩ | ⟨i⟩⟩ <;> exact i.elim0

end Cert.Proof.AdamW2Second
-- ==== Proof.Adam.AdamAdaWSecond.lean ====
/-
  The optimiser's step on the second layer of the conditioning weight,
  kernel against reference, at the ideal instance: the blocks tile the layer, and at each place the step is the
  same arithmetic of the summed gradient. The first layer is left as it was given.
-/
module

public import proofs.«01_k».proof.Defs
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Claim
public import proofs.«01_k».proof.Proof.Adam.Step

@[expose] public section

set_option maxRecDepth 16384
set_option maxHeartbeats 1000000

noncomputable section

namespace Cert.Proof.AdamAdaWSecond

open Adam
open Idealize.ShloMosaic Idealize.ShloMosaic.TcCoe Idealize.SL.Sem
open Cert.Kernel25Ideal Cert.Kernel25Ideal.Gen

/-- The block of each array that grid point `t` works on. -/
theorem idx : ∀ t : Fin cfg0.N, win0_0.index t = ![0, t.val / 2, t.val % 2] ∧ win0_1.index t = ![1, t.val / 2, t.val % 2] ∧
    win0_2.index t = ![1, t.val / 2, t.val % 2] ∧ win0_3.index t = ![1, t.val / 2, t.val % 2] ∧ win0_4.index t = ![1, t.val / 2, t.val % 2] ∧
    win0_5.index t = ![1, t.val / 2, t.val % 2] ∧ win0_6.index t = ![1, t.val / 2, t.val % 2] ∧ win0_7.index t = ![1, t.val / 2, t.val % 2] :=
  (by decide +kernel : ∀ t : Fin grid0.N, _)

variable (m : (ℓ : Loc nD τ sig) → Buf (Elt Ideal) ℓ) (c : Dev nD)

/-- The summed gradient. -/
abbrev outG : S2x2048x1536.Idx → EReal := fun i => grad (m (c.tc.loc main_arg0)) (i 1) (i 2)

/-- What is added to the weight. -/
abbrev outD : S2x2048x1536.Idx → EReal :=
  fun i => delta (m (c.tc.loc main_arg1) i) (m (c.tc.loc main_arg2) i) (m (c.tc.loc main_arg3) i) (outG m c i)

/-- The first moment. -/
abbrev outM : S2x2048x1536.Idx → EReal := fun i => newM (m (c.tc.loc main_arg2) i) (outG m c i)

/-- The second moment. -/
abbrev outV : S2x2048x1536.Idx → EReal := fun i => newV (m (c.tc.loc main_arg3) i) (outG m c i)

/-- Both layers of a result: the first as it was given, the second as the step leaves it. -/
abbrev layers (first second : S2x2048x1536.Idx → EReal) : S2x2048x1536.Idx → EReal :=
  fun i => if (i 0 : Fin 2).val = 1 then second i else first i

/-- The kernel's results: the summed gradient, what is added to the weight, and the two moments. -/
theorem finals : (dats m 0 c).arrAt 4 cfg0.N = layers (m (c.tc.loc main_arg4)) (outG m c) ∧
    (dats m 0 c).arrAt 5 cfg0.N = layers (m (c.tc.loc main_arg5)) (outD m c) ∧
    (dats m 0 c).arrAt 6 cfg0.N = layers (m (c.tc.loc main_arg6)) (outM m c) ∧
    (dats m 0 c).arrAt 7 cfg0.N = layers (m (c.tc.loc main_arg7)) (outV m c) := by
  refine ⟨((dats m 0 c).arrAt_eq_of_coversWhere 4 (outG m c) (P := fun i => (i 0 : Fin 2).val = 1)
      (fun β => β (0 : Fin _) = 1) (by decide +kernel) (fun t hf y => ?_) (fun j => ?_)).trans
      (funext fun i => show ite _ _ (V m c main_v0_0 i) = _ from ?_),
    ((dats m 0 c).arrAt_eq_of_coversWhere 5 (outD m c) (P := fun i => (i 0 : Fin 2).val = 1)
      (fun β => β (0 : Fin _) = 1) (by decide +kernel) (fun t hf y => ?_) (fun j => ?_)).trans
      (funext fun i => show ite _ _ (V m c main_v0_1 i) = _ from ?_),
    ((dats m 0 c).arrAt_eq_of_coversWhere 6 (outM m c) (P := fun i => (i 0 : Fin 2).val = 1)
      (fun β => β (0 : Fin _) = 1) (by decide +kernel) (fun t hf y => ?_) (fun j => ?_)).trans
      (funext fun i => show ite _ _ (V m c main_v0_2 i) = _ from ?_),
    ((dats m 0 c).arrAt_eq_of_coversWhere 7 (outV m c) (P := fun i => (i 0 : Fin 2).val = 1)
      (fun β => β (0 : Fin _) = 1) (by decide +kernel) (fun t hf y => ?_) (fun j => ?_)).trans
      (funext fun i => show ite _ _ (V m c main_v0_3 i) = _ from ?_)⟩
  on_goal 3 => entry_read; rfl
  on_goal 5 => entry_read; rfl
  on_goal 7 => entry_read; rfl
  on_goal 9 => entry_read; rfl
  on_goal 2 => blk_simp [Pipeline.Window.cell_apply]; omega
  on_goal 3 => blk_simp [Pipeline.Window.cell_apply]; omega
  on_goal 4 => blk_simp [Pipeline.Window.cell_apply]; omega
  on_goal 5 => blk_simp [Pipeline.Window.cell_apply]; omega
  all_goals
    blk_simp
    simp only [after0_4, after0_5, after0_6, after0_7, outsAt0]
    frame_out
    idx_vars y
    unfold_payloads
    pointwise
    simp only [outG, outD, outM, outV, delta, newM, newV, grad, Fin.sum_univ_eight, Fin.sum_univ_one]
    blk_point [iblk, V_main_arg0, V_main_arg1, V_main_arg2, V_main_arg3, idx t]

/-- Kernel and reference leave the same gradient, the same step and the same moments. -/
theorem algebraic : Cert.algebraic_Kernel25Ideal_Reference25Ideal := by
  pair_intro
  · run_from Cert.Kernel25Ideal.Value.run_blocks m g
  · refine θ_run_mono (Cert.Reference25Ideal.Value.run m' g') fun r hr c => ?_
    obtain ⟨h0, h1, h2, h3, h⟩ := hr c
    obtain ⟨f0, f1, f2, f3⟩ := finals m c
    obtain ⟨a0, a1, a2, a3, a4, a5, a6, a7⟩ := hagree c
    refine ⟨h0.trans ?_, h1.trans ?_, h2.trans ?_, h3.trans ?_, h⟩
    all_goals clear h0 h1 h2 h3 h hr
    · rw [f0, a0, a4]
      funext i
      idx_vars i; pointwise; obtain rfl | rfl : i0 = 0 ∨ i0 = 1 := by omega
      all_goals rfl
    · rw [f1, a0, a1, a2, a3, a5]
      funext i
      idx_vars i; pointwise; obtain rfl | rfl : i0 = 0 ∨ i0 = 1 := by omega
      all_goals rfl
    · rw [f2, a0, a2, a6]
      funext i
      idx_vars i; pointwise; obtain rfl | rfl : i0 = 0 ∨ i0 = 1 := by omega
      all_goals rfl
    · rw [f3, a0, a3, a7]
      funext i
      idx_vars i; pointwise; obtain rfl | rfl : i0 = 0 ∨ i0 = 1 := by omega
      all_goals rfl

/-- The reference ends, its arguments unchanged; it declares no semaphore. -/
theorem frameR : Cert.quiescent_Reference25Ideal := by
  intro m ρ _
  run_from Cert.Reference25Ideal.Value.run m ρ
  · exact fun _ => ⟨trivial, trivial, trivial, trivial, trivial, trivial, trivial, trivial⟩
  · funext x
    rcases x with ⟨_, ⟨i⟩ | ⟨i⟩⟩ <;> exact i.elim0

end Cert.Proof.AdamAdaWSecond
-- ==== Proof.Rows.Formulas.lean ====
/-
  The formulas of the step's row-wise calls over the extended reals: the norm of a row, its modulation, the
  gate `silu`, and the derivatives of these.
-/
module

public import Idealize.ShloMosaic.Lib.Pipeline.ValueKit
public import Idealize.ShloMosaic.Lib.Pointwise

@[expose] public section

noncomputable section

namespace Cert.Proof.Rows

open Idealize.ShloMosaic

/-- The mean square of a row of 2048 numbers, and 1e-6. -/
def meanSq (x : Fin 2048 → EReal) : EReal :=
  Ideal.div (∑ l, x l * x l) (Ideal.ofBits FTy.f32 1157627904#32) + Ideal.ofBits FTy.f32 897988541#32

/-- One over the root of the mean square. -/
def invRms (x : Fin 2048 → EReal) : EReal := Ideal.rsqrt (meanSq x)

/-- A row's place `j`, normed, scaled by `g`, then modulated by `scale` and `shift`. -/
def modulated (x : Fin 2048 → EReal) (j : Fin 2048) (g scale shift : EReal) : EReal :=
  x j * invRms x * g * (1 + scale) + shift

/-- How the cotangent `d` of a normed row pulls on half the mean square: minus one half of the derivative of the root,
    over the 2048 places. -/
def pull (x d : Fin 2048 → EReal) : EReal :=
  Ideal.div ((∑ l, x l * d l) * (Ideal.ofBits FTy.f32 3204448256#32 * Ideal.div (invRms x) (meanSq x)))
    (Ideal.ofBits FTy.f32 1157627904#32)

/-- The gradient of a row that is normed, `d` being the cotangent of the normed row. -/
def normGrad (x d : Fin 2048 → EReal) (j : Fin 2048) : EReal := d j * invRms x + x j * pull x d + pull x d * x j

/-- `a` times the logistic function of `a`. -/
def silu (a : EReal) : EReal := a * Ideal.logistic a

/-- A sum over 16 blocks of 128 rows is the sum over all rows. -/
theorem sum_blocks (f : Fin 2048 → EReal) (t : ℕ) (ht : t / 16 = 0)
    (h : ∀ (s : Fin 16) (r : Fin 128), 128 * (16 * (t / 16) + s.val) + r.val < 2048) :
    ∑ s : Fin 16, ∑ r : Fin 128, f ⟨128 * (16 * (t / 16) + s.val) + r.val, h s r⟩ = ∑ l, f l :=
  Fin.sum_mul_add_congr fun s r hl => congrArg f (Fin.ext (by simp only [ht]; omega))

end Cert.Proof.Rows
-- ==== Proof.Rows.ResNormFwd.lean ====
/-
  The gated residual sum with its modulated norm, forward, kernel against reference, at the ideal instance: the
  blocks are whole rows, so a row's mean square is that of its block's row.
-/
module

public import proofs.«01_k».proof.Defs
public import proofs.«01_k».proof.Proof.Gen.Kernel26Ideal.Value
public import proofs.«01_k».proof.Proof.Gen.Reference26Ideal.Run
public import proofs.«01_k».proof.Proof.Rows.Formulas
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

namespace Cert.Proof.ResNormFwd

open Rows
open Idealize.ShloMosaic Idealize.ShloMosaic.TcCoe Idealize.SL.Sem
open Cert.Kernel26Ideal Cert.Kernel26Ideal.Gen

/-- The block of each array that grid point `t` works on. -/
theorem idx : ∀ t : Fin cfg0.N, win0_0.index t = ![t.val, 0] ∧ win0_1.index t = ![t.val, 0] ∧ win0_2.index t = ![0, 0, 0] ∧
    win0_3.index t = ![0, 0, 0] ∧ win0_4.index t = ![0, 0, 0] ∧ win0_5.index t = ![0, 0, 0] ∧
    win0_6.index t = ![t.val, 0] ∧ win0_7.index t = ![t.val, 0] :=
  (by decide +kernel : ∀ t : Fin grid0.N, _)

variable (m : (ℓ : Loc nD τ sig) → Buf (Elt Ideal) ℓ) (c : Dev nD)

/-- The residual stream. -/
abbrev X : S2048x2048.Idx → EReal := m (c.tc.loc main_arg0)

/-- What is added to it. -/
abbrev Y : S2048x2048.Idx → EReal := m (c.tc.loc main_arg1)

/-- The gate of what is added. -/
abbrev gate : S1x1x2048.Idx → EReal := m (c.tc.loc main_arg2)

/-- The norm's gain. -/
abbrev G : S1x1x2048.Idx → EReal := m (c.tc.loc main_arg3)

/-- The shift. -/
abbrev shift : S1x1x2048.Idx → EReal := m (c.tc.loc main_arg4)

/-- The scale. -/
abbrev scale : S1x1x2048.Idx → EReal := m (c.tc.loc main_arg5)

/-- Row `i` of the residual sum. -/
abbrev row (i : Fin 2048) : Fin 2048 → EReal := fun l => X m c (ix2 i l) + gate m c (ix3 0 0 l) * Y m c (ix2 i l)

/-- The residual sum. -/
abbrev out0 : S2048x2048.Idx → EReal := fun i => row m c (i 0) (i 1)

/-- Its modulated norm. -/
abbrev out1 : S2048x2048.Idx → EReal := fun i =>
  modulated (row m c (i 0)) (i 1) (G m c (ix3 0 0 (i 1))) (scale m c (ix3 0 0 (i 1))) (shift m c (ix3 0 0 (i 1)))

/-- The kernel's results, in closed form. -/
theorem finals : (dats m 0 c).arrAt 6 cfg0.N = out0 m c ∧
    (dats m 0 c).arrAt 7 cfg0.N = out1 m c := by
  refine ⟨(dats m 0 c).arrAt_eq_of_covers 6 _ (by decide +kernel) fun t hf y => ?_, (dats m 0 c).arrAt_eq_of_covers 7 _ (by decide +kernel) fun t hf y => ?_⟩
  all_goals
    blk_simp
    simp only [after0_6, after0_7]
    frame_out
    idx_vars y
    unfold_payloads
    pointwise
    simp only [out0, out1, row, modulated, invRms, meanSq, X, Y, gate, G, shift, scale]
    blk_point [iblk, V, idx t]

/-- Kernel and reference leave the same results. -/
theorem algebraic : Cert.algebraic_Kernel26Ideal_Reference26Ideal := by
  pair_intro
  · run_from Cert.Kernel26Ideal.Value.run_blocks m g
  · refine θ_run_mono (Cert.Reference26Ideal.Value.run m' g') fun r hr c => ?_
    obtain ⟨h0, h1, h⟩ := hr c
    obtain ⟨f0, f1⟩ := finals m c
    obtain ⟨a0, a1, a2, a3, a4, a5⟩ := hagree c
    refine ⟨h0.trans ?_, h1.trans ?_, h⟩
    all_goals clear h0 h1 h hr
    · rw [f0, a0, a1, a2]
      funext i
      idx_vars i
      pointwise
      rfl
    · rw [f1, a0, a1, a2, a3, a4, a5]
      funext i
      idx_vars i
      pointwise
      rfl

/-- The reference ends, its arguments unchanged; it declares no semaphore. -/
theorem frameR : Cert.quiescent_Reference26Ideal := by
  intro m ρ _
  run_from Cert.Reference26Ideal.Value.run m ρ
  · exact fun _ => ⟨trivial, trivial, trivial, trivial, trivial, trivial⟩
  · funext x
    rcases x with ⟨_, ⟨i⟩ | ⟨i⟩⟩ <;> exact i.elim0

end Cert.Proof.ResNormFwd
-- ==== Proof.Rows.ResNormBwd.lean ====
/-
  The gated residual sum with its modulated norm, backward, kernel against reference, at the ideal instance: the
  blocks are 128 whole rows, so each row's gradient is formed in one block; the gradients of the vectors are summed
  over the rows of a block and then over the blocks.
-/
module

public import proofs.«01_k».proof.Defs
public import proofs.«01_k».proof.Proof.Gen.Kernel27Ideal.Value
public import proofs.«01_k».proof.Proof.Gen.Reference27Ideal.Run
public import proofs.«01_k».proof.Proof.Rows.Formulas
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.Claim

@[expose] public section

set_option maxRecDepth 16384
set_option maxHeartbeats 1000000

noncomputable section

namespace Cert.Proof.ResNormBwd

open Rows
open Idealize.ShloMosaic Idealize.ShloMosaic.TcCoe Idealize.SL.Sem
open Cert.Kernel27Ideal Cert.Kernel27Ideal.Gen

/-! ## The gradients -/

section
variable (X Y : S2048x2048.Idx → EReal) (gate G scale : S1x1x2048.Idx → EReal) (D E : S2048x2048.Idx → EReal)

/-- Row `i` of the residual sum. -/
def row (i : Fin 2048) : Fin 2048 → EReal := fun l => X (ix2 i l) + gate (ix3 0 0 l) * Y (ix2 i l)

/-- The cotangent of row `i` normed. -/
def dRow (i : Fin 2048) : Fin 2048 → EReal := fun l => E (ix2 i l) * (1 + scale (ix3 0 0 l)) * G (ix3 0 0 l)

/-- The gradient of the residual stream: what comes back past the norm and what comes back through it. -/
def gradX (i j : Fin 2048) : EReal :=
  D (ix2 i j) + dRow G scale E i j * invRms (row X Y gate i) + row X Y gate i j * pull (row X Y gate i) (dRow G scale E i) +
    pull (row X Y gate i) (dRow G scale E i) * row X Y gate i j

/-- The gradient of what is added to the stream. -/
def gradY (i j : Fin 2048) : EReal := gate (ix3 0 0 j) * gradX X Y gate G scale D E i j

/-- What row `i` adds to the gradient of the gate. -/
def gradGate (i j : Fin 2048) : EReal := gradX X Y gate G scale D E i j * Y (ix2 i j)

/-- What row `i` adds to the gradient of the gain. -/
def gradG (i j : Fin 2048) : EReal := row X Y gate i j * invRms (row X Y gate i) * (E (ix2 i j) * (1 + scale (ix3 0 0 j)))

/-- What row `i` adds to the gradient of the shift. -/
def gradShift (i j : Fin 2048) : EReal := E (ix2 i j)

/-- What row `i` adds to the gradient of the scale. -/
def gradScale (i j : Fin 2048) : EReal := row X Y gate i j * invRms (row X Y gate i) * G (ix3 0 0 j) * E (ix2 i j)

/-- A vector's gradient: the sum over the rows. -/
def overRows (f : Fin 2048 → Fin 2048 → EReal) : S1x1x2048.Idx → EReal := fun i => ∑ r, f r (i 2)

end

/-! ## The kernel -/

section
variable (m : (ℓ : Loc nD τ sig) → Buf (Elt Ideal) ℓ) (c : Dev nD)

abbrev X : S2048x2048.Idx → EReal := m (c.tc.loc main_arg0)
abbrev Y : S2048x2048.Idx → EReal := m (c.tc.loc main_arg1)
abbrev gate : S1x1x2048.Idx → EReal := m (c.tc.loc main_arg2)
abbrev G : S1x1x2048.Idx → EReal := m (c.tc.loc main_arg3)
abbrev scale : S1x1x2048.Idx → EReal := m (c.tc.loc main_arg5)
abbrev D : S2048x2048.Idx → EReal := m (c.tc.loc main_arg6)
abbrev E : S2048x2048.Idx → EReal := m (c.tc.loc main_arg7)

/-- Row `r` of grid point `t`'s block. -/
def at' (t : Fin cfg0.N) (r : Fin 128) : Fin 2048 := ⟨128 * t.val + r.val, by have : t.val < 16 := t.isLt; omega⟩

/-- The block of each array that grid point `t` works on. -/
theorem idx : ∀ t : Fin cfg0.N, win0_0.index t = ![t.val, 0] ∧ win0_1.index t = ![t.val, 0] ∧ win0_2.index t = ![0, 0, 0] ∧
    win0_3.index t = ![0, 0, 0] ∧ win0_4.index t = ![0, 0, 0] ∧ win0_5.index t = ![0, 0, 0] ∧ win0_6.index t = ![t.val, 0] ∧
    win0_7.index t = ![t.val, 0] ∧ win0_8.index t = ![t.val, 0] ∧ win0_9.index t = ![t.val, 0] ∧ win0_10.index t = ![0, 0, 0] ∧
    win0_11.index t = ![0, 0, 0] ∧ win0_12.index t = ![0, 0, 0] ∧ win0_13.index t = ![0, 0, 0] :=
  (by decide +kernel : ∀ t : Fin grid0.N, _)

theorem blk0 (t : Fin cfg0.N) (r : Fin 128) (l : Fin 2048) : iblk m c 0 t (ix2 r l) = X m c (ix2 (at' t r) l) := by
  unfold at'; blk_ext [iblk, V, idx t]
theorem blk1 (t : Fin cfg0.N) (r : Fin 128) (l : Fin 2048) : iblk m c 1 t (ix2 r l) = Y m c (ix2 (at' t r) l) := by
  unfold at'; blk_ext [iblk, V, idx t]
theorem blk2 (t : Fin cfg0.N) (l : Fin 2048) : iblk m c 2 t (ix3 0 0 l) = gate m c (ix3 0 0 l) := by
  blk_ext [iblk, V, idx t]
theorem blk3 (t : Fin cfg0.N) (l : Fin 2048) : iblk m c 3 t (ix3 0 0 l) = G m c (ix3 0 0 l) := by
  blk_ext [iblk, V, idx t]
theorem blk5 (t : Fin cfg0.N) (l : Fin 2048) : iblk m c 5 t (ix3 0 0 l) = scale m c (ix3 0 0 l) := by
  blk_ext [iblk, V, idx t]
theorem blk6 (t : Fin cfg0.N) (r : Fin 128) (l : Fin 2048) : iblk m c 6 t (ix2 r l) = D m c (ix2 (at' t r) l) := by
  unfold at'; blk_ext [iblk, V, idx t]
theorem blk7 (t : Fin cfg0.N) (r : Fin 128) (l : Fin 2048) : iblk m c 7 t (ix2 r l) = E m c (ix2 (at' t r) l) := by
  unfold at'; blk_ext [iblk, V, idx t]

/-- The kernel's gradients, row by row. -/
abbrev kX := gradX (X m c) (Y m c) (gate m c) (G m c) (scale m c) (D m c) (E m c)
abbrev kY := gradY (X m c) (Y m c) (gate m c) (G m c) (scale m c) (D m c) (E m c)
abbrev kGate := gradGate (X m c) (Y m c) (gate m c) (G m c) (scale m c) (D m c) (E m c)
abbrev kG := gradG (X m c) (Y m c) (gate m c) (scale m c) (E m c)
abbrev kShift := gradShift (E m c)
abbrev kScale := gradScale (X m c) (Y m c) (gate m c) (G m c) (E m c)

/-- What grid point `t` adds to a vector's gradient. -/
def term (f : Fin 2048 → Fin 2048 → EReal) (t : Fin cfg0.N) : S1x1x2048.Idx → EReal := fun y => ∑ r : Fin 128, f (at' t r) (y 2)

/-- The first point sets the vectors' gradients. -/
theorem first (t : Fin cfg0.N) (h : t.val % 16 = 0) :
    (∀ y, (outsAt0 m c t.val t.isLt).1 y = kX m c (at' t (y 0)) (y 1)) ∧
    (∀ y, (outsAt0 m c t.val t.isLt).2.1 y = kY m c (at' t (y 0)) (y 1)) ∧
    (∀ y, (outsAt0 m c t.val t.isLt).2.2.1 y = 0 + term (kGate m c) t y) ∧
    (∀ y, (outsAt0 m c t.val t.isLt).2.2.2.1 y = 0 + term (kG m c) t y) ∧
    (∀ y, (outsAt0 m c t.val t.isLt).2.2.2.2.1 y = 0 + term (kShift m c) t y) ∧
    (∀ y, (outsAt0 m c t.val t.isLt).2.2.2.2.2 y = 0 + term (kScale m c) t y) := by
  have ht : t.val < 16 := t.isLt
  have h1 : ¬ 1 ≤ t.val := by omega
  rw [outsAt0_A m c t h h1 h h1 h h1 h h1]
  refine ⟨fun y => ?_, fun y => ?_, fun y => ?_, fun y => ?_, fun y => ?_, fun y => ?_⟩
  all_goals
    idx_vars y
    frame_out
    unfold_payloads
    pointwise
    simp only [Fin.sum_univ_one, blk0, blk1, blk2, blk3, blk5, blk6, blk7, zero_add]
    rfl

/-- Every later point adds to them. -/
theorem next (t : Fin cfg0.N) (h : ¬ t.val % 16 = 0) :
    (∀ y, (outsAt0 m c t.val t.isLt).1 y = kX m c (at' t (y 0)) (y 1)) ∧
    (∀ y, (outsAt0 m c t.val t.isLt).2.1 y = kY m c (at' t (y 0)) (y 1)) ∧
    (∀ y, (outsAt0 m c t.val t.isLt).2.2.1 y =
      (outsAt0 m c (t.val - 1) (Nat.lt_of_le_of_lt (Nat.sub_le _ _) t.isLt)).2.2.1 y + term (kGate m c) t y) ∧
    (∀ y, (outsAt0 m c t.val t.isLt).2.2.2.1 y =
      (outsAt0 m c (t.val - 1) (Nat.lt_of_le_of_lt (Nat.sub_le _ _) t.isLt)).2.2.2.1 y + term (kG m c) t y) ∧
    (∀ y, (outsAt0 m c t.val t.isLt).2.2.2.2.1 y =
      (outsAt0 m c (t.val - 1) (Nat.lt_of_le_of_lt (Nat.sub_le _ _) t.isLt)).2.2.2.2.1 y + term (kShift m c) t y) ∧
    (∀ y, (outsAt0 m c t.val t.isLt).2.2.2.2.2 y =
      (outsAt0 m c (t.val - 1) (Nat.lt_of_le_of_lt (Nat.sub_le _ _) t.isLt)).2.2.2.2.2 y + term (kScale m c) t y) := by
  have h1 : 1 ≤ t.val := by omega
  rw [outsAt0_B m c t h h1 h h1 h h1 h h1]
  refine ⟨fun y => ?_, fun y => ?_, fun y => ?_, fun y => ?_, fun y => ?_, fun y => ?_⟩
  all_goals
    idx_vars y
    frame_out
    unfold_payloads
    try simp only [read_unread_whole]
    pointwise
    simp only [Fin.sum_univ_one, blk0, blk1, blk2, blk3, blk5, blk6, blk7]
    first
    | rfl
    | (congr 1; exact congrArg _ (by refine congrArg₂ (ix3 · · y2) ?_ ?_ <;> exact Subsingleton.elim _ _))

/-- The gradients of the streams, point by point. -/
theorem tiles (t : Fin cfg0.N) : (∀ y, (outsAt0 m c t.val t.isLt).1 y = kX m c (at' t (y 0)) (y 1)) ∧
    (∀ y, (outsAt0 m c t.val t.isLt).2.1 y = kY m c (at' t (y 0)) (y 1)) := by
  by_cases h : t.val % 16 = 0
  · exact ⟨(first m c t h).1, (first m c t h).2.1⟩
  · exact ⟨(next m c t h).1, (next m c t h).2.1⟩

/-- The sum over the points and the rows of their blocks is the sum over the rows. -/
theorem sum_term (f : Fin 2048 → Fin 2048 → EReal) (t : Fin cfg0.N) (h : t.val % 16 = 15) (y : S1x1x2048.Idx) :
    (0 : EReal) + ∑ s : Fin 16, term f ⟨16 * (t.val / 16) + s.val, Pipeline.run_point_lt_of_flush t h s⟩ y = overRows f y :=
  (zero_add _).trans (sum_blocks (fun r => f r (y 2)) t.val (by have : t.val < 16 := t.isLt; omega) _)

/-- What the kernel leaves in its results. -/
theorem finals : (dats m 0 c).arrAt 8 cfg0.N = (fun i => kX m c (i 0) (i 1)) ∧
    (dats m 0 c).arrAt 9 cfg0.N = (fun i => kY m c (i 0) (i 1)) ∧
    (dats m 0 c).arrAt 10 cfg0.N = overRows (kGate m c) ∧
    (dats m 0 c).arrAt 11 cfg0.N = overRows (kG m c) ∧
    (dats m 0 c).arrAt 12 cfg0.N = overRows (kShift m c) ∧
    (dats m 0 c).arrAt 13 cfg0.N = overRows (kScale m c) := by
  refine ⟨(dats m 0 c).arrAt_eq_of_covers 8 _ (by decide +kernel) fun t hf y => ?_,
    (dats m 0 c).arrAt_eq_of_covers 9 _ (by decide +kernel) fun t hf y => ?_,
    (dats m 0 c).arrAt_eq_of_covers 10 _ (by decide +kernel) fun t hf y => ?_,
    (dats m 0 c).arrAt_eq_of_covers 11 _ (by decide +kernel) fun t hf y => ?_,
    (dats m 0 c).arrAt_eq_of_covers 12 _ (by decide +kernel) fun t hf y => ?_,
    (dats m 0 c).arrAt_eq_of_covers 13 _ (by decide +kernel) fun t hf y => ?_⟩
  · blk_simp
    rw [after0_8]
    refine ((tiles m c t).1 y).trans ?_
    idx_vars y
    refine (congrArg (fun i => kX m c (i 0) (i 1)) (?_ : _ = ix2 (at' t y0) y1)).symm
    unfold at'; blk_ext [idx t]
  · blk_simp
    rw [after0_9]
    refine ((tiles m c t).2 y).trans ?_
    idx_vars y
    refine (congrArg (fun i => kY m c (i 0) (i 1)) (?_ : _ = ix2 (at' t y0) y1)).symm
    unfold at'; blk_ext [idx t]
  · blk_simp
    rw [after0_10]
    have h : t.val % 16 = 15 := (flush0_10 t).mp hf
    refine ((Pipeline.eq_sum_fin_of_reset_step_apply_of_flush (fun n h => (outsAt0 m c n h).2.2.1) 16 (fun _ => 0)
      (term (kGate m c)) (fun t h => (first m c t h).2.2.1) (fun t h => (next m c t h).2.2.1) t h y).trans
      (sum_term _ t h y)).trans ?_
    idx_vars y
    exact congrArg (overRows _) (by blk_ext [idx t])
  · blk_simp
    rw [after0_11]
    have h : t.val % 16 = 15 := (flush0_11 t).mp hf
    refine ((Pipeline.eq_sum_fin_of_reset_step_apply_of_flush (fun n h => (outsAt0 m c n h).2.2.2.1) 16 (fun _ => 0)
      (term (kG m c)) (fun t h => (first m c t h).2.2.2.1) (fun t h => (next m c t h).2.2.2.1) t h y).trans
      (sum_term _ t h y)).trans ?_
    idx_vars y
    exact congrArg (overRows _) (by blk_ext [idx t])
  · blk_simp
    rw [after0_12]
    have h : t.val % 16 = 15 := (flush0_12 t).mp hf
    refine ((Pipeline.eq_sum_fin_of_reset_step_apply_of_flush (fun n h => (outsAt0 m c n h).2.2.2.2.1) 16 (fun _ => 0)
      (term (kShift m c)) (fun t h => (first m c t h).2.2.2.2.1) (fun t h => (next m c t h).2.2.2.2.1) t h y).trans
      (sum_term _ t h y)).trans ?_
    idx_vars y
    exact congrArg (overRows _) (by blk_ext [idx t])
  · blk_simp
    rw [after0_13]
    have h : t.val % 16 = 15 := (flush0_13 t).mp hf
    refine ((Pipeline.eq_sum_fin_of_reset_step_apply_of_flush (fun n h => (outsAt0 m c n h).2.2.2.2.2) 16 (fun _ => 0)
      (term (kScale m c)) (fun t h => (first m c t h).2.2.2.2.2) (fun t h => (next m c t h).2.2.2.2.2) t h y).trans
      (sum_term _ t h y)).trans ?_
    idx_vars y
    exact congrArg (overRows _) (by blk_ext [idx t])

end

/-! ## The reference -/

section
open Cert.Reference27Ideal.Value

variable (m : (ℓ : Loc Cert.Reference27Ideal.nD Cert.Reference27Ideal.τ Cert.Reference27Ideal.sig) → Buf (Elt Ideal) ℓ)
  (c : Dev Cert.Reference27Ideal.nD)

abbrev X' : S2048x2048.Idx → EReal := m (c.tc.loc Cert.Reference27Ideal.main_arg0)
abbrev Y' : S2048x2048.Idx → EReal := m (c.tc.loc Cert.Reference27Ideal.main_arg1)
abbrev gate' : S1x1x2048.Idx → EReal := m (c.tc.loc Cert.Reference27Ideal.main_arg2)
abbrev G' : S1x1x2048.Idx → EReal := m (c.tc.loc Cert.Reference27Ideal.main_arg3)
abbrev scale' : S1x1x2048.Idx → EReal := m (c.tc.loc Cert.Reference27Ideal.main_arg5)
abbrev D' : S2048x2048.Idx → EReal := m (c.tc.loc Cert.Reference27Ideal.main_arg6)
abbrev E' : S2048x2048.Idx → EReal := m (c.tc.loc Cert.Reference27Ideal.main_arg7)

theorem ref0 : res_out0 m c = fun i => gradX (X' m c) (Y' m c) (gate' m c) (G' m c) (scale' m c) (D' m c) (E' m c) (i 0) (i 1) := by
  funext i
  idx_vars i
  unfold res_out0 res_main_v58
  clean_types
  pointwise
  simp only [Fin.sum_univ_one]
  rfl

theorem ref1 : res_out1 m c = fun i => gradY (X' m c) (Y' m c) (gate' m c) (G' m c) (scale' m c) (D' m c) (E' m c) (i 0) (i 1) := by
  funext i
  idx_vars i
  unfold res_out1 res_main_v62
  clean_types
  pointwise
  simp only [Fin.sum_univ_one]
  rfl

theorem ref2 : res_out2 m c = overRows (gradGate (X' m c) (Y' m c) (gate' m c) (G' m c) (scale' m c) (D' m c) (E' m c)) := by
  funext i
  idx_vars i
  unfold res_out2 res_main_v66
  clean_types
  pointwise
  simp only [Fin.sum_univ_one]
  rfl

end

/-- Kernel and reference leave the same gradients. -/
theorem algebraic : Cert.algebraic_Kernel27Ideal_Reference27Ideal := by
  pair_intro
  · run_from Cert.Kernel27Ideal.Value.run_blocks m g
  · refine θ_run_mono (Cert.Reference27Ideal.Value.run m' g') fun r hr c => ?_
    obtain ⟨h0, h1, h2, h3, h4, h5, h⟩ := hr c
    obtain ⟨f0, f1, f2, f3, f4, f5⟩ := finals m c
    obtain ⟨a0, a1, a2, a3, a4, a5, a6, a7⟩ := hagree c
    refine ⟨h0.trans ((ref0 m' c).trans ?_), h1.trans ((ref1 m' c).trans ?_), h2.trans ((ref2 m' c).trans ?_), h3.trans ?_,
      h4.trans ?_, h5.trans ?_, h⟩
    all_goals clear h0 h1 h2 h3 h4 h5 h hr
    · rw [f0]; simp only [X', Y', gate', G', scale', D', E', a0, a1, a2, a3, a5, a6, a7]; rfl
    · rw [f1]; simp only [X', Y', gate', G', scale', D', E', a0, a1, a2, a3, a5, a6, a7]; rfl
    · rw [f2]; simp only [X', Y', gate', G', scale', D', E', a0, a1, a2, a3, a5, a6, a7]
    · rw [f3, a0, a1, a2, a5, a7]
      funext i
      idx_vars i
      pointwise
      rfl
    · rw [f4, a7]
      funext i
      idx_vars i
      pointwise
      rfl
    · rw [f5]
      funext i
      idx_vars i
      clean_types
      pointwise
      rw [a0, a1, a2, a3, a7]
      rfl

/-- The reference ends, its arguments unchanged; it declares no semaphore. -/
theorem frameR : Cert.quiescent_Reference27Ideal := by
  intro m ρ _
  run_from Cert.Reference27Ideal.Value.run m ρ
  · exact fun _ => ⟨trivial, trivial, trivial, trivial, trivial, trivial, trivial, trivial⟩
  · funext x
    rcases x with ⟨_, ⟨i⟩ | ⟨i⟩⟩ <;> exact i.elim0

end Cert.Proof.ResNormBwd
-- ==== Proof.Rows.NormFwd.lean ====
/-
  The modulated norm of the two stretches of tokens, forward, kernel against reference, at the ideal instance: the
  blocks are whole rows, and a block lies in the first stretch or in the second, whose shift and scale it takes.
-/
module

public import proofs.«01_k».proof.Defs
public import proofs.«01_k».proof.Proof.Gen.Kernel28Ideal.Value
public import proofs.«01_k».proof.Proof.Gen.Reference28Ideal.Run
public import proofs.«01_k».proof.Proof.Rows.Formulas
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

namespace Cert.Proof.NormFwd

open Rows
open Idealize.ShloMosaic Idealize.ShloMosaic.TcCoe Idealize.SL.Sem
open Cert.Kernel28Ideal Cert.Kernel28Ideal.Gen

/-- The block of each array that grid point `t` works on. -/
theorem idx : ∀ t : Fin cfg0.N, win0_0.index t = ![t.val, 0] ∧ win0_1.index t = ![0, 0, 0] ∧
    win0_2.index t = ![if t.val < 2 then 0 else 1, 0, 0] ∧ win0_3.index t = ![if t.val < 2 then 0 else 1, 0, 0] ∧
    win0_4.index t = ![t.val, 0] :=
  (by decide +kernel : ∀ t : Fin grid0.N, _)

variable (m : (ℓ : Loc nD τ sig) → Buf (Elt Ideal) ℓ) (c : Dev nD)

/-- The tokens of both stretches. -/
abbrev X : S2304x2048.Idx → EReal := m (c.tc.loc main_arg0)

/-- The norm's gain. -/
abbrev G : S1x1x2048.Idx → EReal := m (c.tc.loc main_arg1)

/-- The shift of each stretch. -/
abbrev shift : S2x1x2048.Idx → EReal := m (c.tc.loc main_arg2)

/-- The scale of each stretch. -/
abbrev scale : S2x1x2048.Idx → EReal := m (c.tc.loc main_arg3)

/-- The stretch row `i` lies in. -/
abbrev stretch (i : Fin 2304) : Fin 2 := if i.val < 256 then 0 else 1

/-- The modulated norm. -/
abbrev out0 : S2304x2048.Idx → EReal := fun i =>
  modulated (fun l => X m c (ix2 (i 0) l)) (i 1) (G m c (ix3 0 0 (i 1))) (scale m c (ix3 (stretch (i 0)) 0 (i 1)))
    (shift m c (ix3 (stretch (i 0)) 0 (i 1)))

/-- The kernel's result, in closed form. -/
theorem finals : (dats m 0 c).arrAt 4 cfg0.N = out0 m c := by
  refine (dats m 0 c).arrAt_eq_of_covers 4 _ (by decide +kernel) fun t hf y => ?_
  blk_simp
  simp only [after0_4]
  frame_out
  idx_vars y
  unfold_payloads
  pointwise
  simp only [out0, stretch, modulated, invRms, meanSq, X, G, shift, scale]
  blk_point [iblk, V, idx t]
  all_goals split_ifs <;> first | rfl | omega

/-- Kernel and reference leave the same result. -/
theorem algebraic : Cert.algebraic_Kernel28Ideal_Reference28Ideal := by
  pair_intro
  · run_from Cert.Kernel28Ideal.Value.run_blocks m g
  · refine θ_run_mono (Cert.Reference28Ideal.Value.run m' g') fun r hr c => ?_
    obtain ⟨h0, h⟩ := hr c
    obtain f0 := finals m c
    obtain ⟨a0, a1, a2, a3⟩ := hagree c
    refine ⟨h0.trans ?_, h⟩
    all_goals clear h0 h hr
    · rw [f0, a0, a1, a2, a3]
      funext i
      idx_vars i
      pointwise
      show _ = modulated (fun l => X m c (ix2 i0 l)) i1 (G m c (ix3 0 0 i1)) (scale m c (ix3 (stretch i0) 0 i1))
        (shift m c (ix3 (stretch i0) 0 i1))
      by_cases h : i0.val < 256
      · rw [dif_pos h, show stretch i0 = 0 from if_pos h]
        rfl
      · have e (p) : (⟨256 + (i0.val - 256), p⟩ : Fin 2304) = i0 := Fin.ext (by dsimp only; omega)
        rw [dif_neg h, show stretch i0 = 1 from if_neg h]
        simp only [e]
        rfl

/-- The reference ends, its arguments unchanged; it declares no semaphore. -/
theorem frameR : Cert.quiescent_Reference28Ideal := by
  intro m ρ _
  run_from Cert.Reference28Ideal.Value.run m ρ
  · exact fun _ => ⟨trivial, trivial, trivial, trivial⟩
  · funext x
    rcases x with ⟨_, ⟨i⟩ | ⟨i⟩⟩ <;> exact i.elim0

end Cert.Proof.NormFwd
-- ==== Proof.Rows.SwigluBwd.lean ====
/-
  The gated unit of the two-layer network, backward, kernel against reference, at the ideal instance: the blocks
  tile the results, and at each place the derivative of `silu` is written out.
-/
module

public import proofs.«01_k».proof.Defs
public import proofs.«01_k».proof.Proof.Gen.Kernel29Ideal.Value
public import proofs.«01_k».proof.Proof.Gen.Reference29Ideal.Run
public import proofs.«01_k».proof.Proof.Rows.Formulas
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

namespace Cert.Proof.SwigluBwd

open Rows
open Idealize.ShloMosaic Idealize.ShloMosaic.TcCoe Idealize.SL.Sem
open Cert.Kernel29Ideal Cert.Kernel29Ideal.Gen

/-- The block of each array that grid point `t` works on. -/
theorem idx : ∀ t : Fin cfg0.N, win0_0.index t = ![t.val % 4, t.val / 4] ∧ win0_1.index t = ![t.val % 4, t.val / 4 + 11] ∧
    win0_2.index t = ![t.val % 4, t.val / 4] ∧ win0_3.index t = ![t.val % 4, t.val / 4] ∧ win0_4.index t = ![t.val % 4, t.val / 4] :=
  (by decide +kernel : ∀ t : Fin grid0.N, _)

variable (m : (ℓ : Loc nD τ sig) → Buf (Elt Ideal) ℓ) (c : Dev nD)

/-- A column of the left half (the gate's half). -/
abbrev left (j : Fin 5632) : Fin 11264 := ⟨j.val, by omega⟩

/-- A column of the right half (the gated half). -/
abbrev right (j : Fin 5632) : Fin 11264 := ⟨5632 + j.val, by omega⟩

/-- Both halves. -/
abbrev AB : S2048x11264.Idx → EReal := m (c.tc.loc main_arg0)

/-- What comes back to the unit. -/
abbrev D : S2048x5632.Idx → EReal := m (c.tc.loc main_arg1)

/-- The gradient of the gate's half `a`, of which the unit is `silu a` times the other half `b`. -/
abbrev dGate (a b d : EReal) : EReal :=
  d * b * Ideal.logistic a + a * (d * b) * (Ideal.logistic a * (1 - Ideal.logistic a))

/-- The gradient of the gate's half. -/
abbrev out0 : S2048x5632.Idx → EReal :=
  fun i => dGate (AB m c (ix2 (i 0) (left (i 1)))) (AB m c (ix2 (i 0) (right (i 1)))) (D m c i)

/-- The gradient of the gated half. -/
abbrev out1 : S2048x5632.Idx → EReal := fun i => silu (AB m c (ix2 (i 0) (left (i 1)))) * D m c i

/-- The kernel's results, in closed form. -/
theorem finals : (dats m 0 c).arrAt 3 cfg0.N = out0 m c ∧
    (dats m 0 c).arrAt 4 cfg0.N = out1 m c := by
  refine ⟨(dats m 0 c).arrAt_eq_of_covers 3 _ (by decide +kernel) fun t hf y => ?_, (dats m 0 c).arrAt_eq_of_covers 4 _ (by decide +kernel) fun t hf y => ?_⟩
  all_goals
    blk_simp
    simp only [after0_3, after0_4]
    frame_out
    idx_vars y
    unfold_payloads
    pointwise
    simp only [out0, out1, left, right, silu, AB, D, dGate]
    blk_point [iblk, V, idx t]

/-- Kernel and reference leave the same results. -/
theorem algebraic : Cert.algebraic_Kernel29Ideal_Reference29Ideal := by
  pair_intro
  · run_from Cert.Kernel29Ideal.Value.run_blocks m g
  · refine θ_run_mono (Cert.Reference29Ideal.Value.run m' g') fun r hr c => ?_
    obtain ⟨h0, h1, h⟩ := hr c
    obtain ⟨f0, f1⟩ := finals m c
    obtain ⟨a0, a1⟩ := hagree c
    refine ⟨h0.trans ?_, h1.trans ?_, h⟩
    all_goals clear h0 h1 h hr
    · rw [f0, a0, a1]
      funext i
      idx_vars i
      pointwise
      rfl
    · rw [f1, a0, a1]
      funext i
      idx_vars i
      pointwise
      rfl

/-- The reference ends, its arguments unchanged; it declares no semaphore. -/
theorem frameR : Cert.quiescent_Reference29Ideal := by
  intro m ρ _
  run_from Cert.Reference29Ideal.Value.run m ρ
  · exact fun _ => ⟨trivial, trivial⟩
  · funext x
    rcases x with ⟨_, ⟨i⟩ | ⟨i⟩⟩ <;> exact i.elim0

end Cert.Proof.SwigluBwd
-- ==== Proof.Rows.SwigluFwd.lean ====
/-
  The gated unit of the two-layer network, forward, kernel against reference, at the ideal instance: the blocks
  tile the result, and each place is the gate's half through `silu` times the other half.
-/
module

public import proofs.«01_k».proof.Defs
public import proofs.«01_k».proof.Proof.Gen.Kernel30Ideal.Value
public import proofs.«01_k».proof.Proof.Gen.Reference30Ideal.Run
public import proofs.«01_k».proof.Proof.Rows.Formulas
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

namespace Cert.Proof.SwigluFwd

open Rows
open Idealize.ShloMosaic Idealize.ShloMosaic.TcCoe Idealize.SL.Sem
open Cert.Kernel30Ideal Cert.Kernel30Ideal.Gen

/-- The block of each array that grid point `t` works on. -/
theorem idx : ∀ t : Fin cfg0.N, win0_0.index t = ![t.val % 4, t.val / 4] ∧ win0_1.index t = ![t.val % 4, t.val / 4 + 11] ∧
    win0_2.index t = ![t.val % 4, t.val / 4] :=
  (by decide +kernel : ∀ t : Fin grid0.N, _)

variable (m : (ℓ : Loc nD τ sig) → Buf (Elt Ideal) ℓ) (c : Dev nD)

/-- A column of the left half (the gate's half). -/
abbrev left (j : Fin 5632) : Fin 11264 := ⟨j.val, by omega⟩

/-- A column of the right half (the gated half). -/
abbrev right (j : Fin 5632) : Fin 11264 := ⟨5632 + j.val, by omega⟩

/-- Both halves. -/
abbrev AB : S2048x11264.Idx → EReal := m (c.tc.loc main_arg0)

/-- The gated unit. -/
abbrev out0 : S2048x5632.Idx → EReal := fun i => silu (AB m c (ix2 (i 0) (left (i 1)))) * AB m c (ix2 (i 0) (right (i 1)))

/-- The kernel's result, in closed form. -/
theorem finals : (dats m 0 c).arrAt 2 cfg0.N = out0 m c := by
  refine (dats m 0 c).arrAt_eq_of_covers 2 _ (by decide +kernel) fun t hf y => ?_
  blk_simp
  simp only [after0_2]
  frame_out
  idx_vars y
  unfold_payloads
  pointwise
  simp only [out0, left, right, silu, AB]
  blk_point [iblk, V, idx t]

/-- Kernel and reference leave the same result. -/
theorem algebraic : Cert.algebraic_Kernel30Ideal_Reference30Ideal := by
  pair_intro
  · run_from Cert.Kernel30Ideal.Value.run_blocks m g
  · refine θ_run_mono (Cert.Reference30Ideal.Value.run m' g') fun r hr c => ?_
    obtain ⟨h0, h⟩ := hr c
    obtain f0 := finals m c
    obtain a0 := hagree c
    refine ⟨h0.trans ?_, h⟩
    all_goals clear h0 h hr
    · rw [f0, a0]
      funext i
      idx_vars i
      pointwise
      rfl

/-- The reference ends, its arguments unchanged; it declares no semaphore. -/
theorem frameR : Cert.quiescent_Reference30Ideal := by
  intro m ρ _
  run_from Cert.Reference30Ideal.Value.run m ρ
  · exact fun _ => trivial
  · funext x
    rcases x with ⟨_, ⟨i⟩ | ⟨i⟩⟩ <;> exact i.elim0

end Cert.Proof.SwigluFwd
-- ==== Proof.Rows.LossHead.lean ====
/-
  The loss of the step with its gradients, kernel against reference, at the ideal instance: the blocks are 128 whole
  rows, so each row's part of the loss and each row's gradient are formed in one block; the loss and the gradients of
  the vectors are summed over the rows of a block and then over the blocks, and half of a sum is the sum of the halves.
-/
module

public import proofs.«01_k».proof.Defs
public import proofs.«01_k».proof.Proof.Gen.Kernel31Ideal.Value
public import proofs.«01_k».proof.Proof.Gen.Reference31Ideal.Run
public import proofs.«01_k».proof.Proof.Rows.Formulas
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.Claim

@[expose] public section

set_option maxRecDepth 16384
set_option maxHeartbeats 1000000

noncomputable section

namespace Cert.Proof.LossHead

open Rows
open Idealize.ShloMosaic Idealize.ShloMosaic.TcCoe Idealize.SL.Sem
open Cert.Kernel31Ideal Cert.Kernel31Ideal.Gen

/-! ## The loss and its gradients -/

/-- One half, as the programs write it. -/
abbrev half : EReal := Ideal.ofBits FTy.f32 1056964608#32

theorem half_eq : half = (((1 : ℝ) / 2 : ℝ) : EReal) := by
  simp [half, Ideal.ofBits, Ideal.ieee, -EReal.coe_mul]; norm_num

/-- Half of a sum is the sum of the halves. -/
theorem half_sum {n : ℕ} (f : Fin n → EReal) : ∑ s, half * f s = half * ∑ s, f s := by
  have h0 : 0 ≤ half := by rw [half_eq]; exact EReal.coe_nonneg.mpr (by norm_num)
  have h1 : half ≠ ⊤ := by rw [half_eq]; exact EReal.coe_ne_top _
  have key (S : Finset (Fin n)) : ∑ s ∈ S, half * f s = half * ∑ s ∈ S, f s := by
    induction S using Finset.induction_on with
    | empty => simp
    | insert a S ha ih => rw [Finset.sum_insert ha, Finset.sum_insert ha, ih, EReal.left_distrib_of_nonneg_of_ne_top h0 h1]
  exact key _

section
variable (X F T : S2048x2048.Idx → EReal) (gate G : S1x2048.Idx → EReal)

/-- Row `i` of the gated residual sum. -/
def row (i : Fin 2048) : Fin 2048 → EReal := fun l => X (ix2 i l) + gate (ix2 0 l) * F (ix2 i l)

/-- How far row `i`, normed, is from the target. -/
def off (i : Fin 2048) : Fin 2048 → EReal :=
  fun l => row X F gate i l * invRms (row X F gate i) * G (ix2 0 l) - T (ix2 i l)

/-- Row `i`'s mean square distance. -/
def rowLoss (i : Fin 2048) : EReal :=
  Ideal.div (∑ l, off X F T gate G i l * off X F T gate G i l) (Ideal.ofBits FTy.f32 1157627904#32)

/-- The loss: half the sum of the rows' mean square distances. -/
def loss : EReal := half * ∑ r, rowLoss X F T gate G r

/-- The cotangent of row `i`'s scaled norm. -/
def dOut (i : Fin 2048) : Fin 2048 → EReal := fun l =>
  Ideal.div half (Ideal.ofBits FTy.f32 1157627904#32) * (Ideal.ofBits FTy.f32 1073741824#32 * off X F T gate G i l)

/-- The cotangent of row `i`'s norm. -/
def dRow (i : Fin 2048) : Fin 2048 → EReal := fun l => dOut X F T gate G i l * G (ix2 0 l)

/-- The gradient of the residual stream. -/
def gradX (i j : Fin 2048) : EReal := normGrad (row X F gate i) (dRow X F T gate G i) j

/-- The gradient of what is added to the stream. -/
def gradF (i j : Fin 2048) : EReal := gate (ix2 0 j) * gradX X F T gate G i j

/-- What row `i` adds to the gradient of the gate. -/
def gradGate (i j : Fin 2048) : EReal := gradX X F T gate G i j * F (ix2 i j)

/-- What row `i` adds to the gradient of the gain. -/
def gradG (i j : Fin 2048) : EReal := row X F gate i j * invRms (row X F gate i) * dOut X F T gate G i j

/-- A matrix given by its rows. -/
def matrix (f : Fin 2048 → Fin 2048 → EReal) : S2048x2048.Idx → EReal := fun i => f (i 0) (i 1)

/-- A vector's gradient: the sum over the rows. -/
def overRows (f : Fin 2048 → Fin 2048 → EReal) : S1x2048.Idx → EReal := fun i => ∑ r, f r (i 1)

end

/-! ## The kernel -/

section
variable (m : (ℓ : Loc nD τ sig) → Buf (Elt Ideal) ℓ) (c : Dev nD)

abbrev X : S2048x2048.Idx → EReal := m (c.tc.loc main_arg0)
abbrev F : S2048x2048.Idx → EReal := m (c.tc.loc main_arg1)
abbrev T : S2048x2048.Idx → EReal := m (c.tc.loc main_arg2)
abbrev gate : S1x2048.Idx → EReal := m (c.tc.loc main_arg3)
abbrev G : S1x2048.Idx → EReal := m (c.tc.loc main_arg4)

/-- Row `r` of grid point `t`'s block. -/
def at' (t : Fin cfg0.N) (r : Fin 128) : Fin 2048 := ⟨128 * t.val + r.val, by have : t.val < 16 := t.isLt; omega⟩

/-- The block of each array that grid point `t` works on. -/
theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![t.val, 0] ∧
    win0_7.index t = ![t.val, 0] ∧ win0_8.index t = ![0, 0] ∧ win0_9.index t = ![0, 0] :=
  (by decide +kernel : ∀ t : Fin grid0.N, _)

theorem blk0 (t : Fin cfg0.N) (r : Fin 128) (l : Fin 2048) : iblk m c 0 t (ix2 r l) = X m c (ix2 (at' t r) l) := by
  unfold at'; blk_ext [iblk, V, idx t]
theorem blk1 (t : Fin cfg0.N) (r : Fin 128) (l : Fin 2048) : iblk m c 1 t (ix2 r l) = F m c (ix2 (at' t r) l) := by
  unfold at'; blk_ext [iblk, V, idx t]
theorem blk2 (t : Fin cfg0.N) (r : Fin 128) (l : Fin 2048) : iblk m c 2 t (ix2 r l) = T m c (ix2 (at' t r) l) := by
  unfold at'; blk_ext [iblk, V, idx t]
theorem blk3 (t : Fin cfg0.N) (l : Fin 2048) : iblk m c 3 t (ix2 0 l) = gate m c (ix2 0 l) := by
  blk_ext [iblk, V, idx t]
theorem blk4 (t : Fin cfg0.N) (l : Fin 2048) : iblk m c 4 t (ix2 0 l) = G m c (ix2 0 l) := by
  blk_ext [iblk, V, idx t]

/-- The kernel's loss and gradients, row by row. -/
abbrev kLoss := rowLoss (X m c) (F m c) (T m c) (gate m c) (G m c)
abbrev kX := gradX (X m c) (F m c) (T m c) (gate m c) (G m c)
abbrev kF := gradF (X m c) (F m c) (T m c) (gate m c) (G m c)
abbrev kGate := gradGate (X m c) (F m c) (T m c) (gate m c) (G m c)
abbrev kG := gradG (X m c) (F m c) (T m c) (gate m c) (G m c)

/-- What grid point `t` adds to the loss. -/
def lossTerm (t : Fin cfg0.N) : S8x128.Idx → EReal := fun _ => half * ∑ r : Fin 128, kLoss m c (at' t r)

/-- What grid point `t` adds to a vector's gradient. -/
def term (f : Fin 2048 → Fin 2048 → EReal) (t : Fin cfg0.N) : S1x2048.Idx → EReal := fun y => ∑ r : Fin 128, f (at' t r) (y 1)

/-- The first point sets the loss and the vectors' gradients. -/
theorem first (t : Fin cfg0.N) (h : t.val % 16 = 0) :
    (∀ y, (outsAt0 m c t.val t.isLt).1 y = 0 + lossTerm m c t y) ∧
    (∀ y, (outsAt0 m c t.val t.isLt).2.1 y = kX m c (at' t (y 0)) (y 1)) ∧
    (∀ y, (outsAt0 m c t.val t.isLt).2.2.1 y = kF m c (at' t (y 0)) (y 1)) ∧
    (∀ y, (outsAt0 m c t.val t.isLt).2.2.2.1 y = 0 + term (kGate m c) t y) ∧
    (∀ y, (outsAt0 m c t.val t.isLt).2.2.2.2 y = 0 + term (kG m c) t y) := by
  rw [outsAt0_A m c t h]
  refine ⟨fun y => ?_, fun y => ?_, fun y => ?_, fun y => ?_, fun y => ?_⟩
  all_goals
    idx_vars y
    frame_out
    unfold_payloads
    pointwise
    simp only [Fin.sum_univ_one, blk0, blk1, blk2, blk3, blk4, zero_add]
    rfl

/-- Every later point adds to them. -/
theorem next (t : Fin cfg0.N) (h : ¬ t.val % 16 = 0) :
    (∀ y, (outsAt0 m c t.val t.isLt).1 y =
      (outsAt0 m c (t.val - 1) (Nat.lt_of_le_of_lt (Nat.sub_le _ _) t.isLt)).1 y + lossTerm m c t y) ∧
    (∀ y, (outsAt0 m c t.val t.isLt).2.1 y = kX m c (at' t (y 0)) (y 1)) ∧
    (∀ y, (outsAt0 m c t.val t.isLt).2.2.1 y = kF m c (at' t (y 0)) (y 1)) ∧
    (∀ y, (outsAt0 m c t.val t.isLt).2.2.2.1 y =
      (outsAt0 m c (t.val - 1) (Nat.lt_of_le_of_lt (Nat.sub_le _ _) t.isLt)).2.2.2.1 y + term (kGate m c) t y) ∧
    (∀ y, (outsAt0 m c t.val t.isLt).2.2.2.2 y =
      (outsAt0 m c (t.val - 1) (Nat.lt_of_le_of_lt (Nat.sub_le _ _) t.isLt)).2.2.2.2 y + term (kG m c) t y) := by
  rw [outsAt0_B m c t h]
  refine ⟨fun y => ?_, fun y => ?_, fun y => ?_, fun y => ?_, fun y => ?_⟩
  all_goals
    idx_vars y
    frame_out
    unfold_payloads
    try simp only [read_unread_whole]
    pointwise
    simp only [Fin.sum_univ_one, blk0, blk1, blk2, blk3, blk4]
    rfl

/-- The gradients of the streams, point by point. -/
theorem tiles (t : Fin cfg0.N) : (∀ y, (outsAt0 m c t.val t.isLt).2.1 y = kX m c (at' t (y 0)) (y 1)) ∧
    (∀ y, (outsAt0 m c t.val t.isLt).2.2.1 y = kF m c (at' t (y 0)) (y 1)) := by
  by_cases h : t.val % 16 = 0
  · exact ⟨(first m c t h).2.1, (first m c t h).2.2.1⟩
  · exact ⟨(next m c t h).2.1, (next m c t h).2.2.1⟩

/-- The sum over the points and the rows of their blocks is the sum over the rows. -/
theorem sum_term (f : Fin 2048 → Fin 2048 → EReal) (t : Fin cfg0.N) (h : t.val % 16 = 15) (y : S1x2048.Idx) :
    (0 : EReal) + ∑ s : Fin 16, term f ⟨16 * (t.val / 16) + s.val, Pipeline.run_point_lt_of_flush t h s⟩ y = overRows f y :=
  (zero_add _).trans (sum_blocks (fun r => f r (y 1)) t.val (by have : t.val < 16 := t.isLt; omega) _)

/-- The same for the loss. -/
theorem sum_loss (t : Fin cfg0.N) (h : t.val % 16 = 15) (y : S8x128.Idx) :
    (0 : EReal) + ∑ s : Fin 16, lossTerm m c ⟨16 * (t.val / 16) + s.val, Pipeline.run_point_lt_of_flush t h s⟩ y =
      loss (X m c) (F m c) (T m c) (gate m c) (G m c) :=
  ((zero_add _).trans (half_sum _)).trans
    (congrArg (half * ·) (sum_blocks (kLoss m c) t.val (by have : t.val < 16 := t.isLt; omega) _))

/-- What the kernel leaves in its results. -/
theorem finals : (dats m 0 c).arrAt 5 cfg0.N = (fun _ => loss (X m c) (F m c) (T m c) (gate m c) (G m c)) ∧
    (dats m 0 c).arrAt 6 cfg0.N = matrix (kX m c) ∧
    (dats m 0 c).arrAt 7 cfg0.N = matrix (kF m c) ∧
    (dats m 0 c).arrAt 8 cfg0.N = overRows (kGate m c) ∧
    (dats m 0 c).arrAt 9 cfg0.N = overRows (kG m c) := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_,
    (dats m 0 c).arrAt_eq_of_covers 9 _ (by decide +kernel) fun t hf y => ?_⟩
  · blk_simp
    rw [after0_5]
    have h : t.val % 16 = 15 := (flush0_5 t).mp hf
    exact (Pipeline.eq_sum_fin_of_reset_step_apply_of_flush (fun n h => (outsAt0 m c n h).1) 16 (fun _ => 0)
      (lossTerm m c) (fun t h => (first m c t h).1) (fun t h => (next m c t h).1) t h y).trans (sum_loss m c t h y)
  · blk_simp
    rw [after0_6]
    refine ((tiles m c t).1 y).trans ?_
    idx_vars y
    show matrix (kX m c) (ix2 (at' t y0) y1) = _
    exact congrArg (matrix _) (by unfold at'; blk_ext [idx t])
  · blk_simp
    rw [after0_7]
    refine ((tiles m c t).2 y).trans ?_
    idx_vars y
    show matrix (kF m c) (ix2 (at' t y0) y1) = _
    exact congrArg (matrix _) (by unfold at'; blk_ext [idx t])
  · blk_simp
    rw [after0_8]
    have h : t.val % 16 = 15 := (flush0_8 t).mp hf
    refine ((Pipeline.eq_sum_fin_of_reset_step_apply_of_flush (fun n h => (outsAt0 m c n h).2.2.2.1) 16 (fun _ => 0)
      (term (kGate m c)) (fun t h => (first m c t h).2.2.2.1) (fun t h => (next m c t h).2.2.2.1) t h y).trans
      (sum_term _ t h y)).trans ?_
    idx_vars y
    exact congrArg (overRows _) (by blk_ext [idx t])
  · blk_simp
    rw [after0_9]
    have h : t.val % 16 = 15 := (flush0_9 t).mp hf
    refine ((Pipeline.eq_sum_fin_of_reset_step_apply_of_flush (fun n h => (outsAt0 m c n h).2.2.2.2) 16 (fun _ => 0)
      (term (kG m c)) (fun t h => (first m c t h).2.2.2.2) (fun t h => (next m c t h).2.2.2.2) t h y).trans
      (sum_term _ t h y)).trans ?_
    idx_vars y
    exact congrArg (overRows _) (by blk_ext [idx t])

end

/-- Kernel and reference leave the same loss and the same gradients. -/
theorem algebraic : Cert.algebraic_Kernel31Ideal_Reference31Ideal := by
  pair_intro
  · run_from Cert.Kernel31Ideal.Value.run_blocks m g
  · refine θ_run_mono (Cert.Reference31Ideal.Value.run m' g') fun r hr c => ?_
    obtain ⟨h0, h1, h2, h3, h4, h⟩ := hr c
    obtain ⟨f0, f1, f2, f3, f4⟩ := finals m c
    obtain ⟨a0, a1, a2, a3, a4⟩ := hagree c
    refine ⟨h0.trans ?_, h1.trans ?_, h2.trans ?_, h3.trans ?_, h4.trans ?_, h⟩
    all_goals clear h0 h1 h2 h3 h4 h hr
    · rw [f0]
      funext i
      idx_vars i
      clean_types
      pointwise
      rw [a0, a1, a2, a3, a4]
      rfl
    · rw [f1]
      funext i
      idx_vars i
      unfold Cert.Reference31Ideal.Value.res_main_v51
      clean_types
      pointwise
      rw [a0, a1, a2, a3, a4]
      simp only [Fin.sum_univ_one]
      rfl
    · rw [f2]
      funext i
      idx_vars i
      unfold Cert.Reference31Ideal.Value.res_main_v53
      clean_types
      pointwise
      rw [a0, a1, a2, a3, a4]
      simp only [Fin.sum_univ_one]
      rfl
    · rw [f3]
      funext i
      idx_vars i
      unfold Cert.Reference31Ideal.Value.res_main_v56
      clean_types
      pointwise
      rw [a0, a1, a2, a3, a4]
      simp only [Fin.sum_univ_one]
      rfl
    · rw [f4]
      funext i
      idx_vars i
      clean_types
      pointwise
      rw [a0, a1, a2, a3, a4]
      rfl

/-- The reference ends, its arguments unchanged; it declares no semaphore. -/
theorem frameR : Cert.quiescent_Reference31Ideal := by
  intro m ρ _
  run_from Cert.Reference31Ideal.Value.run m ρ
  · exact fun _ => ⟨trivial, trivial, trivial, trivial, trivial⟩
  · funext x
    rcases x with ⟨_, ⟨i⟩ | ⟨i⟩⟩ <;> exact i.elim0

end Cert.Proof.LossHead
-- ==== Proof.Rows.ConvFwd.lean ====
/-
  The gated convolution, forward, kernel against reference, at the ideal instance: the blocks are whole columns; the
  kernel turns the gated columns by one place and blanks the end that came round, the reference pads with zeros.
  The two ways of moving a column are those of the backward call's proof.
-/
module

public import proofs.«01_k».proof.Defs
public import proofs.«01_k».proof.Proof.Gen.Kernel32Ideal.Value
public import proofs.«01_k».proof.Proof.Gen.Reference32Ideal.Run
public import proofs.«01_k».proof.Proof.Conv
public import Idealize.ShloMosaic.Lib.Pipeline.ValueKit
public import Idealize.ShloMosaic.Lib.Pointwise
public import Idealize.ShloMosaic.Lib.Claim

@[expose] public section

set_option maxRecDepth 16384
set_option maxHeartbeats 1000000

noncomputable section

namespace Cert.Proof.ConvFwd

open Conv (before after col z select_before select_after before_mul after_mul slice_before slice_after col0 col1 col2)
open Idealize.ShloMosaic Idealize.ShloMosaic.TcCoe Idealize.SL.Sem
open Cert.Kernel32Ideal Cert.Kernel32Ideal.Gen

/-- The block of each array that grid point `t` works on. -/
theorem idx : ∀ t : Fin cfg0.N, win0_0.index t = ![0, t.val] ∧ win0_1.index t = ![0, 8 + t.val] ∧
    win0_2.index t = ![0, 16 + t.val] ∧ win0_3.index t = ![0, 0, t.val] ∧ win0_4.index t = ![0, t.val] :=
  (by decide +kernel : ∀ t : Fin grid0.N, _)

variable (m : (ℓ : Loc nD τ sig) → Buf (Elt Ideal) ℓ) (c : Dev nD)

/-- The outer gate, the inner gate and the input, side by side. -/
abbrev X : S2048x6144.Idx → EReal := m (c.tc.loc main_arg0)

/-- The three taps. -/
abbrev W : S3x1x2048.Idx → EReal := m (c.tc.loc main_arg1)

/-- Channel `l` of grid point `t`'s block. -/
def ch (t : Fin cfg0.N) (l : Fin 256) : Fin 2048 := ⟨256 * t.val + l.val, by have : t.val < 8 := t.isLt; omega⟩

theorem blk_gb (t : Fin cfg0.N) (r : Fin 2048) (l : Fin 256) : iblk m c 0 t (ix2 r l) = X m c (ix2 r (col 0 (ch t l))) := by
  unfold ch col
  blk_ext [iblk, V, idx t]
theorem blk_gc (t : Fin cfg0.N) (r : Fin 2048) (l : Fin 256) : iblk m c 1 t (ix2 r l) = X m c (ix2 r (col 1 (ch t l))) := by
  unfold ch col
  blk_ext [iblk, V, idx t]
theorem blk_u (t : Fin cfg0.N) (r : Fin 2048) (l : Fin 256) : iblk m c 2 t (ix2 r l) = X m c (ix2 r (col 2 (ch t l))) := by
  unfold ch col
  blk_ext [iblk, V, idx t]
theorem blk_w (t : Fin cfg0.N) (k : Fin 3) (l : Fin 256) : iblk m c 3 t (ix3 k 0 l) = W m c (ix3 k 0 (ch t l)) := by
  unfold ch
  blk_ext [iblk, V, idx t]

/-- Where an element of block `t` of the result stands. -/
theorem emb4 (t : Fin cfg0.N) (r : Fin 2048) (l : Fin 256) :
    ((View.whole main_v0).slice (win0_4.rect t)).emb (ix2 r l) = ix2 r (ch t l) := by
  unfold ch; blk_ext [idx t]

/-- The gated convolution at row `r` and channel `l`: three taps down the channel, nothing beyond its ends, times the
    outer gate. -/
def gatedConv (x : S2048x6144.Idx → EReal) (w : S3x1x2048.Idx → EReal) (r l : Fin 2048) : EReal :=
  x (ix2 r (col 0 l)) *
    (before (z x l) r * w (ix3 0 0 l) + z x l r * w (ix3 1 0 l) + after (z x l) r * w (ix3 2 0 l))

/-- The gated convolution. -/
def out : S2048x2048.Idx → EReal := fun i => gatedConv (X m c) (W m c) (i 0) (i 1)

/-- The kernel's result, in closed form. -/
theorem final : (dats m 0 c).arrAt 4 cfg0.N = out m c := by
  refine (dats m 0 c).arrAt_eq_of_covers 4 _ (by decide +kernel) fun t hf y => ?_
  blk_simp
  rw [after0_4]
  frame_out
  idx_vars y
  refine Eq.trans ?_ (congrArg (out m c) (emb4 t y0 y1)).symm
  unfold_payloads
  pointwise
  simp only [blk_gb, blk_gc, blk_u, blk_w]
  show _ = gatedConv _ _ y0 (ch t y1)
  unfold gatedConv
  have hB := select_before (fun r => z (X m c) (ch t y1) r * W m c (ix3 0 0 (ch t y1))) y0
  have hA := select_after (fun r => z (X m c) (ch t y1) r * W m c (ix3 2 0 (ch t y1))) y0
  simp only [before_mul, after_mul] at hB hA
  rw [← hA (Nat.mod_lt _ (by decide)), ← hB (Nat.mod_lt _ (by decide))]
  rfl

/-- Kernel and reference leave the same result. -/
theorem algebraic : Cert.algebraic_Kernel32Ideal_Reference32Ideal := by
  pair_intro
  · run_from Cert.Kernel32Ideal.Value.run_blocks m g
  · refine θ_run_mono (Cert.Reference32Ideal.Value.run m' g') fun r hr c => ?_
    obtain ⟨h0, h⟩ := hr c
    obtain ⟨a0, a1⟩ := hagree c
    refine ⟨h0.trans ?_, h⟩
    clear h0 h hr
    rw [final, a0, a1]
    funext i
    idx_vars i
    pointwise
    simp only [col0, col1, col2]
    show _ = gatedConv _ _ i0 i1
    unfold gatedConv
    rw [← slice_before (z (X m c) i1) i0, ← slice_after (z (X m c) i1) i0]
    rfl

/-- The reference ends, its arguments unchanged; it declares no semaphore. -/
theorem frameR : Cert.quiescent_Reference32Ideal := by
  intro m ρ _
  run_from Cert.Reference32Ideal.Value.run m ρ
  · exact fun _ => ⟨trivial, trivial⟩
  · funext x
    rcases x with ⟨_, ⟨i⟩ | ⟨i⟩⟩ <;> exact i.elim0

end Cert.Proof.ConvFwd
-- ==== Proof.Rows.GradXBody.lean ====
/-
  The body of the norm's backward call, run at one grid point: what it leaves in each of its four outputs.
-/
module

public import proofs.«01_k».proof.Proof.Gen.Kernel33Ideal.Frame
public import proofs.«01_k».proof.Proof.Gen.Kernel33Ideal.Skeleton
public import Idealize.ShloMosaic.Lib.Pipeline.TableIdle
public import Idealize.ShloMosaic.Lib.Pipeline.ReadBack
public import Idealize.ShloMosaic.Lib.Tactic
public import Idealize.ShloMosaic.Lib.VecWindow

@[expose] public section

set_option maxRecDepth 16384

noncomputable section

namespace Cert.Proof.GradX

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel33Ideal Cert.Kernel33Ideal.Gen

variable {F : FTy → Type} [FloatOps F]

local notation "𝕄" => MT nD τ sig Unit (Elt F) ℕ (UR sig nD τ) ℕ

/-- The rows' gradient, from the rows `x`, the gain `g`, the scale `s` and the cotangent `d`. -/
def dx (x : Vec F S128x2048 .f32) (g s : Vec F S1x1x2048 .f32) (d : Vec F S128x2048 .f32) : Vec F S128x2048 .f32 :=
  k0_pay15 (k0_pay2 x) (k0_pay5 x) (k0_pay6 x) (k0_pay13 g s d) (k0_pay14 x g s d)

/-- The gain's gradient after the point: set where `first` holds, else added to what was there. -/
def dgain (first : Prop) [Decidable first] (x : Vec F S128x2048 .f32) (s : Vec F S1x1x2048 .f32) (d : Vec F S128x2048 .f32)
    (a : Vec F S1x1x2048 .f32) : Vec F S1x1x2048 .f32 :=
  if first then k0_pay16 (k0_pay12 x s d) else k0_pay17 (k0_pay12 x s d) a

/-- The shift's gradient after the point. -/
def dshift (first : Prop) [Decidable first] (d : Vec F S128x2048 .f32) (a : Vec F S1x1x2048 .f32) : Vec F S1x1x2048 .f32 :=
  if first then k0_pay18 (k0_pay9 d) else k0_pay19 (k0_pay9 d) a

/-- The scale's gradient after the point. -/
def dscale (first : Prop) [Decidable first] (x : Vec F S128x2048 .f32) (g : Vec F S1x1x2048 .f32) (d : Vec F S128x2048 .f32)
    (a : Vec F S1x1x2048 .f32) : Vec F S1x1x2048 .f32 :=
  if first then k0_pay20 (k0_pay10 x g d) else k0_pay1 (k0_pay10 x g d) a

/-- The conditions of the body's six branches: the first of each pair is the negation of the second, and the last two
    pairs test the same. -/
theorem conds : ∀ t : Fin grid0.N,
    (k0_cond1 (grid0.coords t) = 1#1 ↔ t.val = 0) ∧ (k0_cond2 (grid0.coords t) = 1#1 ↔ ¬t.val = 0) ∧
    (k0_cond3 (grid0.coords t) = 1#1 ↔ (t.val = 0 ∨ t.val = 2)) ∧ (k0_cond4 (grid0.coords t) = 1#1 ↔ ¬(t.val = 0 ∨ t.val = 2)) ∧
    (k0_cond5 (grid0.coords t) = 1#1 ↔ (t.val = 0 ∨ t.val = 2)) ∧ (k0_cond6 (grid0.coords t) = 1#1 ↔ ¬(t.val = 0 ∨ t.val = 2)) := by
  decide +kernel

set_option maxHeartbeats 2000000 in
/-- The body's run at a point: `P` is said to start the gain's sums over, `Q` those of the shift and the scale. -/
theorem body_run (c : Dev nD) (i : grid0.Coords) (P Q : Prop) [Decidable P] [Decidable Q]
    (e1 : k0_cond1 i = 1#1 ↔ P) (e2 : k0_cond2 i = 1#1 ↔ ¬P) (e3 : k0_cond3 i = 1#1 ↔ Q) (e4 : k0_cond4 i = 1#1 ↔ ¬Q)
    (e5 : k0_cond5 i = 1#1 ↔ Q) (e6 : k0_cond6 i = 1#1 ↔ ¬Q)
    (arg2 : Memref sig .tc .vmem S128x2048 .f32) (harg2 : arg2.IsWhole) (arg3 : Memref sig .tc .vmem S1x1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S128x2048 .f32) (harg6 : arg6.IsWhole) (arg7 : Memref sig .tc .vmem S128x2048 .f32) (harg7 : arg7.IsWhole)
    (arg8 : Memref sig .tc .vmem S1x1x2048 .f32) (harg8 : arg8.IsWhole) (arg9 : Memref sig .tc .vmem S1x1x2048 .f32) (harg9 : arg9.IsWhole)
    (arg10 : Memref sig .tc .vmem S1x1x2048 .f32) (harg10 : arg10.IsWhole)
    (x0 : Vec F S128x2048 .f32) (x1 x2 x3 : Vec F S1x1x2048 .f32) (x4 : Vec F S128x2048 .f32)
    (a5 : Vec F S128x2048 .f32) (a6 a7 a8 : Vec F S1x1x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare a5
        ∗ owns (c : Thread nD τ) arg8 fullShare a6 ∗ owns (c : Thread nD τ) arg9 fullShare a7 ∗ owns (c : Thread nD τ) arg10 fullShare a8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (dx x0 x1 x3 x4)
            ∗ owns (c : Thread nD τ) arg8 fullShare (dgain P x0 x3 x4 a6)
            ∗ owns (c : Thread nD τ) arg9 fullShare (dshift Q x4 a7)
            ∗ owns (c : Thread nD τ) arg10 fullShare (dscale Q x0 x1 x4 a8)) -∗ K ⟨⟩))
      ⊢ wp frame (wpE (defs₀ (F := F)) Variants.none c none) E
          (cc0_norm_mod_bwd i arg2 harg2 arg3 harg3 arg4 harg4 arg5 harg5 arg6 harg6 arg7 harg7 arg8 harg8 arg9 harg9 arg10 harg10) K := by
  simp only [cc0_norm_mod_bwd_eq_skeleton]; unfold cc0_norm_mod_bwd_skel
  simp only [k0_part1_eq_skeleton, k0_part2_eq_skeleton]
  by_cases h0 : P <;> by_cases h1 : Q
  all_goals
    simp only [h0, h1, iff_true, iff_false, not_true, not_false_eq_true] at e1 e2 e3 e4 e5 e6
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact e1 | sl_exact e2 | sl_exact e3 | sl_exact e4 | sl_exact e5 | sl_exact e6)
    sl_step
    iapply Hk
    have l2 := (View.readAt_full arg2.view (harg2.unread x0) inb_S128x2048_S128x2048_0_0).trans (harg2.read_unread x0)
    have l3 := (View.readAt_full arg3.view (harg3.unread x1) inb_S1x1x2048_S1x1x2048_0_0_0).trans (harg3.read_unread x1)
    have l5 := (View.readAt_full arg5.view (harg5.unread x3) inb_S1x1x2048_S1x1x2048_0_0_0).trans (harg5.read_unread x3)
    have l6 := (View.readAt_full arg6.view (harg6.unread x4) inb_S128x2048_S128x2048_0_0).trans (harg6.read_unread x4)
    have l8 := (View.readAt_full arg8.view (harg8.unread a6) inb_S1x1x2048_S1x1x2048_0_0_0).trans (harg8.read_unread a6)
    have l9 := (View.readAt_full arg9.view (harg9.unread a7) inb_S1x1x2048_S1x1x2048_0_0_0).trans (harg9.read_unread a7)
    have l10 := (View.readAt_full arg10.view (harg10.unread a8) inb_S1x1x2048_S1x1x2048_0_0_0).trans (harg10.read_unread a8)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      refine (View.read_writes_full _ _ _ _ _).trans (.trans (b := dx _ _ _ _) rfl ?_)
      exact congr (congr (congr (congrArg dx l2) l3) l5) l6
    isplitl [H6]
    · iexists _; isplitr
      swap; · iexact H6
      ipureintro
      refine (View.read_writes_full _ _ _ _ _).trans ?_
      simp only [dgain, h0, if_true, if_false]
      first
        | refine .trans (b := k0_pay16 (k0_pay12 _ _ _)) rfl ?_
          exact congrArg k0_pay16 (congr (congr (congrArg k0_pay12 l2) l5) l6)
        | refine .trans (b := k0_pay17 (k0_pay12 _ _ _) _) rfl ?_
          exact congr (congrArg k0_pay17 (congr (congr (congrArg k0_pay12 l2) l5) l6)) l8
    isplitl [H7]
    · iexists _; isplitr
      swap; · iexact H7
      ipureintro
      refine (View.read_writes_full _ _ _ _ _).trans ?_
      simp only [dshift, h1, if_true, if_false]
      first
        | refine .trans (b := k0_pay18 (k0_pay9 _)) rfl ?_
          exact congrArg k0_pay18 (congrArg k0_pay9 l6)
        | refine .trans (b := k0_pay19 (k0_pay9 _) _) rfl ?_
          exact congr (congrArg k0_pay19 (congrArg k0_pay9 l6)) l9
    · iexists _; isplitr
      swap; · iexact H8
      ipureintro
      refine (View.read_writes_full _ _ _ _ _).trans ?_
      simp only [dscale, h1, if_true, if_false]
      first
        | refine .trans (b := k0_pay20 (k0_pay10 _ _ _)) rfl ?_
          exact congrArg k0_pay20 (congr (congr (congrArg k0_pay10 l2) l3) l6)
        | refine .trans (b := k0_pay1 (k0_pay10 _ _ _) _) rfl ?_
          exact congr (congrArg k0_pay1 (congr (congr (congrArg k0_pay10 l2) l3) l6)) l10

end Cert.Proof.GradX
-- ==== Proof.Rows.GradXFrame.lean ====
/-
  The norm's backward call run over its grid: what its staging buffers hold point by point, the obligation of the body, the
  run of @main around the call, and the frame.
-/
module

public import proofs.«01_k».proof.Proof.Rows.GradXBody
public import Idealize.ShloMosaic.Lib.Claim

@[expose] public section

set_option maxRecDepth 16384

noncomputable section

namespace Cert.Proof.GradX

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel33Ideal Cert.Kernel33Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold -/

/-- One point's change to the gradients of the gain, the shift and the scale. -/
def step (c : Dev nD) (t : Fin cfg0.N) (a : Vec F S1x1x2048 .f32 × Vec F S1x1x2048 .f32 × Vec F S1x1x2048 .f32) :
    Vec F S1x1x2048 .f32 × Vec F S1x1x2048 .f32 × Vec F S1x1x2048 .f32 :=
  (dgain (t.val = 0) (iblk m c 0 t) (iblk m c 3 t) (iblk m c 4 t) a.1,
    dshift (t.val = 0 ∨ t.val = 2) (iblk m c 4 t) a.2.1,
    dscale (t.val = 0 ∨ t.val = 2) (iblk m c 0 t) (iblk m c 1 t) (iblk m c 4 t) a.2.2)

/-- The three gradients after point `n`. The first point starts all three over, so what it is handed does not matter. -/
def sums (c : Dev nD) : (n : ℕ) → n < cfg0.N → Vec F S1x1x2048 .f32 × Vec F S1x1x2048 .f32 × Vec F S1x1x2048 .f32
  | 0, h => step m c ⟨0, h⟩ (iblk m c 1 ⟨0, h⟩, iblk m c 1 ⟨0, h⟩, iblk m c 1 ⟨0, h⟩)
  | n + 1, h => step m c ⟨n + 1, h⟩ (sums c n (Nat.lt_of_succ_lt h))

/-- The proof data: the arrays as the region finds them; after a point, the blocks in the inputs' buffers and the outputs'
    values in theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dx (iblk m c 0 t) (iblk m c 1 t) (iblk m c 3 t) (iblk m c 4 t)
    | ⟨6, _⟩ => (sums m c t.val t.isLt).1
    | ⟨7, _⟩ => (sums m c t.val t.isLt).2.1
    | ⟨8, _⟩ => (sums m c t.val t.isLt).2.2
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d

/-- Every window is live at every point: the outputs that are stored under conditions are stored in one branch or the
    other. -/
theorem live : ∀ w : Fin cfg0.W, ∀ t : Fin cfg0.N, cfg0.idle w (cfg0.grid.coords t) = false := by decide +kernel

/-- The gain's buffer is kept from point to point; those of the shift and the scale are written back once, after the
    context's rows, and kept otherwise. -/
theorem kept : ∀ t : Fin cfg0.N, (¬t.val = 0 → cfg0.fresh 6 t.val = false) ∧
    (¬(t.val = 0 ∨ t.val = 2) → cfg0.fresh 7 t.val = false ∧ cfg0.fresh 8 t.val = false) := by decide +kernel

/-- A kept output's buffer holds at a point what the point before left. -/
theorem before_kept (c : Dev nD) (w : Fin cfg0.W) (hw : (cfg0.win w).isOut = true)
    (hclip : ∀ (i : cfg0.grid.Coords) a, (cfg0.win w).clip i a = none) (t : Fin cfg0.N) (hf : cfg0.fresh w t.val = false) (d) :
    (dats m 0 c).before w t d = (dats m 0 c).after w ⟨t.val - 1, by omega⟩ := by
  rw [Dat.before_out_traj _ w hw hclip (fun t _ hi _ => absurd ((live w t).symm.trans hi) Bool.false_ne_true) t.val t rfl d,
    if_neg (by rw [hf]; exact Bool.false_ne_true)]

theorem sums_pos (c : Dev nD) (t : Fin cfg0.N) (h : ¬t.val = 0) :
    sums m c t.val t.isLt = step m c t (sums m c (t.val - 1) (by omega)) := by
  obtain ⟨n, hn⟩ := t
  cases n with
  | zero => exact absurd rfl h
  | succ n => rfl

theorem sums_zero (c : Dev nD) (t : Fin cfg0.N) (h : t.val = 0) :
    sums m c t.val t.isLt = step m c t (iblk m c 1 t, iblk m c 1 t, iblk m c 1 t) := by
  obtain ⟨n, hn⟩ := t
  obtain rfl : n = 0 := h
  rfl

/-- The point's change to what the gain's buffer held is what the proof data say. -/
theorem after_6 (c : Dev nD) (t : Fin cfg0.N) (d) :
    dgain (t.val = 0) (iblk m c 0 t) (iblk m c 3 t) (iblk m c 4 t) ((dats m 0 c).before 6 t d) = (sums m c t.val t.isLt).1 := by
  by_cases h : t.val = 0
  · rw [sums_zero m c t h]; unfold step dgain; rw [if_pos h, if_pos h]
  · rw [sums_pos m c t h, before_kept m c 6 rfl (fun _ _ => rfl) t ((kept t).1 h) d]; rfl

/-- The same of the shift's, -/
theorem after_7 (c : Dev nD) (t : Fin cfg0.N) (d) :
    dshift (t.val = 0 ∨ t.val = 2) (iblk m c 4 t) ((dats m 0 c).before 7 t d) = (sums m c t.val t.isLt).2.1 := by
  by_cases h : t.val = 0 ∨ t.val = 2
  · by_cases h' : t.val = 0
    · rw [sums_zero m c t h']; unfold step dshift; rw [if_pos h, if_pos h]
    · rw [sums_pos m c t h']; unfold step dshift; rw [if_pos h, if_pos h]
  · rw [sums_pos m c t fun h' => h (.inl h'), before_kept m c 7 rfl (fun _ _ => rfl) t ((kept t).2 h).1 d]; rfl

/-- and of the scale's. -/
theorem after_8 (c : Dev nD) (t : Fin cfg0.N) (d) :
    dscale (t.val = 0 ∨ t.val = 2) (iblk m c 0 t) (iblk m c 1 t) (iblk m c 4 t) ((dats m 0 c).before 8 t d) = (sums m c t.val t.isLt).2.2 := by
  by_cases h : t.val = 0 ∨ t.val = 2
  · by_cases h' : t.val = 0
    · rw [sums_zero m c t h']; unfold step dscale; rw [if_pos h, if_pos h]
    · rw [sums_pos m c t h']; unfold step dscale; rw [if_pos h, if_pos h]
  · rw [sums_pos m c t fun h' => h (.inl h'), before_kept m c 8 rfl (fun _ _ => rfl) t ((kept t).2 h).2 d]; rfl

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- A live window's buffer is left at what the proof data say. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨e1, e2, e3, e4, e5, e6⟩ := conds t
  iapply (body_run c (grid0.coords t) (t.val = 0) (t.val = 0 ∨ t.val = 2) e1 e2 e3 e4 e5 e6 _ _ _ _ _ _ _ _ _ _ _ _ _ _ _ _ _ _
    (iblk m c 0 t) (iblk m c 1 t) (iblk m c 2 t) (iblk m c 3 t) (iblk m c 4 t) _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [after_6, after_7, after_8]
  simp only [leaves]
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of @main and the frame -/

set_option backward.isDefEq.respectTransparency.types false in
/-- @main runs to the end, the call's outputs written back point by point, with every counter at zero. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.GradX
-- ==== Proof.Rows.GradX.lean ====
/-
  The gradient of the step's input: what comes back through the modulated norm of the two stretches of tokens, and what
  comes back past it, kernel against reference, at the ideal instance. The norm's blocks are 128 whole rows, so each row's
  gradient is formed in one block; the input's rows are those of the second stretch.
-/
module

public import proofs.«01_k».proof.Defs
public import proofs.«01_k».proof.Proof.Rows.GradXFrame
public import proofs.«01_k».proof.Proof.Gen.Reference33Ideal.Run
public import proofs.«01_k».proof.Proof.Rows.Formulas
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.Claim

@[expose] public section

set_option maxRecDepth 16384
set_option maxHeartbeats 1000000

noncomputable section

namespace Cert.Proof.GradX

open Rows
open Idealize.ShloMosaic Idealize.ShloMosaic.TcCoe Idealize.SL.Sem
open Cert.Kernel33Ideal Cert.Kernel33Ideal.Gen

/-- The gradient of the input's row `i`, at place `j`: that of the normed row, from its cotangent `D` at the row's place
    among all tokens, and the cotangent `E` of the residual stream. -/
def gradX (X : S2048x2048.Idx → EReal) (G : S1x1x2048.Idx → EReal) (scale : S2x1x2048.Idx → EReal) (D : S2304x2048.Idx → EReal)
    (E : S2048x2048.Idx → EReal) (i j : Fin 2048) : EReal :=
  normGrad (fun l => X (ix2 i l)) (fun l => D (ix2 ⟨256 + i.val, by omega⟩ l) * (1 + scale (ix3 1 0 l)) * G (ix3 0 0 l)) j + E (ix2 i j)

/-! ## The kernel -/

section
variable (m : (ℓ : Loc nD τ sig) → Buf (Elt Ideal) ℓ) (ρ : Dev nD → PrngReg) (c : Dev nD)

abbrev X : S2048x2048.Idx → EReal := m (c.tc.loc main_arg1)
abbrev G : S1x1x2048.Idx → EReal := m (c.tc.loc main_arg2)
abbrev scale : S2x1x2048.Idx → EReal := m (c.tc.loc main_arg4)
abbrev D : S2304x2048.Idx → EReal := m (c.tc.loc main_arg5)
abbrev E : S2048x2048.Idx → EReal := m (c.tc.loc main_arg6)

/-- All tokens, as the call finds them. -/
abbrev T : S2304x2048.Idx → EReal := V m c main_v0

/-- The stretch row `i` lies in. -/
abbrev stretch (i : Fin 2304) : Fin 2 := if i.val < 256 then 0 else 1

/-- Row `r` of grid point `t`'s block. -/
def at' (t : Fin cfg0.N) (r : Fin 128) : Fin 2304 := ⟨128 * t.val + r.val, by have : t.val < 18 := t.isLt; omega⟩

/-- The block of each array that grid point `t` works on. -/
theorem idx : ∀ t : Fin cfg0.N, win0_0.index t = ![t.val, 0] ∧ win0_1.index t = ![0, 0, 0] ∧
    win0_2.index t = ![if t.val < 2 then 0 else 1, 0, 0] ∧ win0_3.index t = ![if t.val < 2 then 0 else 1, 0, 0] ∧
    win0_4.index t = ![t.val, 0] ∧ win0_5.index t = ![t.val, 0] :=
  (by decide +kernel : ∀ t : Fin grid0.N, _)

theorem blk0 (t : Fin cfg0.N) (r : Fin 128) (l : Fin 2048) : iblk m c 0 t (ix2 r l) = T m c (ix2 (at' t r) l) := by
  unfold at'; blk_ext [iblk, idx t]
theorem blk1 (t : Fin cfg0.N) (l : Fin 2048) : iblk m c 1 t (ix3 0 0 l) = G m c (ix3 0 0 l) := by
  refine .trans ?_ (congrFun (V_main_arg2 m c) _); blk_ext [iblk, idx t]
theorem blk3 (t : Fin cfg0.N) (r : Fin 128) (l : Fin 2048) : iblk m c 3 t (ix3 0 0 l) = scale m c (ix3 (stretch (at' t r)) 0 l) := by
  refine .trans ?_ (congrFun (V_main_arg4 m c) _); unfold stretch at'; blk_ext [iblk, idx t]
  split_ifs <;> first | rfl | omega
theorem blk4 (t : Fin cfg0.N) (r : Fin 128) (l : Fin 2048) : iblk m c 4 t (ix2 r l) = D m c (ix2 (at' t r) l) := by
  refine .trans ?_ (congrFun (V_main_arg5 m c) _); unfold at'; blk_ext [iblk, idx t]

/-- The gradient of row `i` of all tokens through the norm. -/
def rowGrad (i : Fin 2304) (j : Fin 2048) : EReal :=
  normGrad (fun l => T m c (ix2 i l)) (fun l => D m c (ix2 i l) * (1 + scale m c (ix3 (stretch i) 0 l)) * G m c (ix3 0 0 l)) j

/-- The first output, point by point. -/
theorem tile (t : Fin cfg0.N) (y : S128x2048.Idx) :
    dx (F := Ideal) (iblk m c 0 t) (iblk m c 1 t) (iblk m c 3 t) (iblk m c 4 t) y = rowGrad m c (at' t (y 0)) (y 1) := by
  idx_vars y
  unfold dx
  unfold_payloads
  pointwise
  simp only [Fin.sum_univ_one, blk0, blk1, blk3 m c t y0, blk4]
  rfl

/-- What the norm's call leaves in its first output. -/
theorem finals : (dats m 0 c).arrAt 5 cfg0.N = fun i => rowGrad m c (i 0) (i 1) := by
  refine (dats m 0 c).arrAt_eq_of_covers 5 _ (by decide +kernel) fun t hf y => ?_
  blk_simp
  refine (tile m c t y).trans ?_
  idx_vars y
  refine (congrArg (fun i => rowGrad m c (i 0) (i 1)) (?_ : _ = ix2 (at' t y0) y1)).symm
  unfold at'; blk_ext [idx t]

/-- All tokens are the context's and the input's. -/
theorem T_eq : T m c = concatenate S2304x2048 0 [⟨S256x2048, (m (c.tc.loc main_arg0) : S256x2048.Idx → EReal)⟩, ⟨S2048x2048, X m c⟩]
    concatenates_S256x2048_S2048x2048_S2304x2048_d0 := by
  unfold T V V0
  simp only [hostOps0, List.flatten_cons, List.flatten_nil, List.append_nil]
  after_results

/-- From the second stretch on they are the input's rows. -/
theorem T_second (i l : Fin 2048) : T m c (ix2 ⟨256 + i.val, by omega⟩ l) = X m c (ix2 i l) := by
  rw [T_eq]
  pointwise

/-- What the program leaves in its result: the rows of the second stretch, and the residual's cotangent added. -/
theorem result : Pipeline.afterTail₀ cfgs (dats m) 0 (V0 m) [hostOps1] c main_v3 =
    fun i => gradX (X m c) (G m c) (scale m c) (D m c) (E m c) (i 0) (i 1) := by
  unfold Pipeline.afterTail₀
  simp only [hostOps1, List.flatten_cons, List.flatten_nil, List.append_nil]
  after_results
  have h : Pipeline.withArrays spec0 c (V0 m c) (fun w => (dats m 0 c).arrAt w cfg0.N) (Proc.devRef .tc main_v1_0) = _ :=
    (Pipeline.withArrays_arr spec0 (by decide) c _ _ 5).trans (finals m c)
  have h' : Pipeline.withArrays spec0 c (V0 m c) (fun w => (dats m 0 c).arrAt w cfg0.N) (Proc.devRef .tc main_arg6) = E m c :=
    (Pipeline.withArrays_of_ne spec0 c _ _ main_arg6 (by decide)).trans (V_main_arg6 m c)
  refine (congrArg₂ (fun a b => addf (F := Ideal) (extractStridedSlice S2048x2048 ![256, 0] a slices_S2304x2048_S2048x2048_256_0) b) h h').trans ?_
  funext i
  idx_vars i
  pointwise
  have hs : stretch ⟨256 + i0.val, by omega⟩ = 1 := if_neg (by simp)
  show rowGrad m c ⟨256 + i0.val, by omega⟩ i1 + _ = _
  unfold rowGrad gradX
  rw [hs, show (fun l => T m c (ix2 ⟨256 + i0.val, by omega⟩ l)) = fun l => X m c (ix2 i0 l) from funext fun l => T_second m c i0 l]

/-- The program ends with that in its result and its arguments unchanged. -/
theorem run : θ_run defs (onTc (τ := τ) (main (F := Ideal))) ⟨m, fun _ => 0, ρ⟩ (fun r => ∀ c : Dev nD,
      r.2.mem ((c.tc : Thread nD τ).loc main_v3) = (fun i => gradX (X m c) (G m c) (scale m c) (D m c) (E m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨((h.1.1 c).2 main_v3 (Pipeline.mem_restRefs_of main_v3 (by decide) (by decide))).trans (result m c), h.2.1 c⟩)
    (θ_run_and (run_main m ρ) (frame m ρ))

end

/-! ## The reference -/

section
open Cert.Reference33Ideal.Value

variable (m : (ℓ : Loc Cert.Reference33Ideal.nD Cert.Reference33Ideal.τ Cert.Reference33Ideal.sig) → Buf (Elt Ideal) ℓ)
  (c : Dev Cert.Reference33Ideal.nD)

abbrev X' : S2048x2048.Idx → EReal := m (c.tc.loc Cert.Reference33Ideal.main_arg1)
abbrev G' : S1x1x2048.Idx → EReal := m (c.tc.loc Cert.Reference33Ideal.main_arg2)
abbrev scale' : S2x1x2048.Idx → EReal := m (c.tc.loc Cert.Reference33Ideal.main_arg4)
abbrev D' : S2304x2048.Idx → EReal := m (c.tc.loc Cert.Reference33Ideal.main_arg5)
abbrev E' : S2048x2048.Idx → EReal := m (c.tc.loc Cert.Reference33Ideal.main_arg6)

theorem ref : res_out0 m c = fun i => gradX (X' m c) (G' m c) (scale' m c) (D' m c) (E' m c) (i 0) (i 1) := by
  funext i
  idx_vars i
  unfold res_out0 res_main_v68
  clean_types
  pointwise
  simp only [Fin.sum_univ_one]
  exact add_comm _ _

end

/-- Kernel and reference leave the same gradient. -/
theorem algebraic : Cert.algebraic_Kernel33Ideal_Reference33Ideal := by
  pair_intro
  · run_from run m g
  · refine θ_run_mono (Cert.Reference33Ideal.Value.run m' g') fun r hr c => ?_
    obtain ⟨h0, h⟩ := hr c
    obtain ⟨a0, a1, a2, a3, a4, a5, a6⟩ := hagree c
    refine ⟨h0.trans ((ref m' c).trans ?_), h⟩
    simp only [X', G', scale', D', E', a1, a2, a4, a5, a6]
    rfl

/-- The reference ends, its arguments unchanged; it declares no semaphore. -/
theorem frameR : Cert.quiescent_Reference33Ideal := by
  intro m ρ _
  run_from Cert.Reference33Ideal.Value.run m ρ
  · exact fun _ => ⟨trivial, trivial, trivial, trivial, trivial, trivial, trivial⟩
  · funext x
    rcases x with ⟨_, ⟨i⟩ | ⟨i⟩⟩ <;> exact i.elim0

end Cert.Proof.GradX
-- ==== Proof.Rows.GradXBits.lean ====
/-
  The frame of the norm's backward call on bits: the two programs are the same text under two names, so the one's run is the
  other's.
-/
module

public import proofs.«01_k».proof.Defs
public import proofs.«01_k».proof.Proof.Rows.GradXFrame
public import proofs.«01_k».proof.Proof.Gen.Kernel33.Launch

@[expose] public section

noncomputable section

namespace Cert.Proof.GradX

open Idealize.ShloMosaic Idealize.ShloMosaic.TcCoe Idealize.SL.Sem

/-- The two programs' body tables are the same. -/
theorem table [h : Cert.Kernel33.Facts] [h' : Cert.Kernel33Ideal.Facts] :
    @Cert.Kernel33.defs₀ Bits _ h = @Cert.Kernel33Ideal.defs₀ Bits _ h' := by
  refine congrArg Defs.onTc (funext fun l => funext fun x => ?_)
  obtain rfl : l = (0 : Fin 1) := Subsingleton.elim (α := Fin 1) _ _
  obtain ⟨t, s⟩ := x
  rfl

/-- The program on bits ends, its arguments unchanged. -/
theorem frameBits : Cert.quiescent_Kernel33 := fun m ρ _ =>
  (congrArg (fun d : Defs Cert.Kernel33.nD Cert.Kernel33.τ Cert.Kernel33.sig (Elt Bits) Cert.Kernel33.Λ₀ =>
    θ_run (Pipeline.defs Cert.Kernel33.pcfgs d) (onTc (τ := Cert.Kernel33.τ) (Cert.Kernel33.main (F := Bits))) ⟨m, fun _ => 0, ρ⟩ _)
    table).mpr (frame (F := Bits) m ρ)

end Cert.Proof.GradX
-- ==== Proof.Rows.StepLossBody.lean ====
/-
  The body of the loss head's call on one device of eight, run at one grid point: what it leaves in each of its outputs.
-/
module

public import proofs.«01_k».proof.Proof.Gen.Kernel34Ideal.Launch
public import proofs.«01_k».proof.Proof.Gen.Kernel34Ideal.Points
public import proofs.«01_k».proof.Proof.Gen.Kernel34Ideal.Skeleton
public import Idealize.ShloMosaic.Lib.Pipeline.ReadBack
public import Idealize.ShloMosaic.Lib.Tactic
public import Idealize.ShloMosaic.Lib.VecWindow

@[expose] public section

set_option maxRecDepth 16384

noncomputable section

namespace Cert.Proof.StepLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel34Ideal Cert.Kernel34Ideal.Gen

variable {F : FTy → Type} [FloatOps F] {U : Type} [URA U]

local notation "𝕄" => MT nD τ sig ℕ (Elt F) ℕ U ℕ

section
variable (x f t : Vec F S128x2048 .f32) (gate g : Vec F S1x2048 .f32)

/-- The gradient of the residual stream, from its rows `x`, what is added to it `f`, the target `t`, the gate and the gain. -/
def dx : Vec F S128x2048 .f32 :=
  k0_pay16 (k0_pay5 g) (k0_pay6 x f gate) (k0_pay8 x f gate) (k0_pay9 x f gate) (k0_pay12 t x f gate g)

/-- The gradient of what is added to the stream. -/
def df : Vec F S128x2048 .f32 :=
  k0_pay17 (k0_pay4 gate) (k0_pay5 g) (k0_pay6 x f gate) (k0_pay8 x f gate) (k0_pay9 x f gate) (k0_pay12 t x f gate g)

/-- The loss after the point: the point's part added to what was there, or to zero where `first` holds. -/
def lossAfter (first : Prop) [Decidable first] (a : Vec F S8x128 .f32) : Vec F S8x128 .f32 :=
  k0_pay22 (k0_pay13 t x f gate g) (if first then k0_pay19 else a)

/-- The gate's gradient after the point. -/
def dgateAfter (first : Prop) [Decidable first] (a : Vec F S1x2048 .f32) : Vec F S1x2048 .f32 :=
  k0_pay1 (k0_pay18 (k0_pay3 f) (k0_pay5 g) (k0_pay6 x f gate) (k0_pay8 x f gate) (k0_pay9 x f gate) (k0_pay12 t x f gate g))
    (if first then k0_pay20 else a)

/-- The gain's gradient after the point. -/
def dgainAfter (first : Prop) [Decidable first] (a : Vec F S1x2048 .f32) : Vec F S1x2048 .f32 :=
  k0_pay2 (k0_pay15 (k0_pay10 x f gate) (k0_pay12 t x f gate g)) (if first then k0_pay21 else a)

end

/-- What the body tests: whether the grid point is the first. -/
def isFirst (i : grid0.Coords) : BitVec 1 :=
  Scalar.cmpi .ne (Scalar.extui (Scalar.cmpi .eq (BitVec.ofNat 32 (i 0).val) 0#32) : BitVec 32) 0#32

theorem isFirst_iff : ∀ t : Fin grid0.N, isFirst (grid0.coords t) = 1#1 ↔ t.val = 0 := by decide +kernel

set_option maxHeartbeats 2000000 in
/-- The body's run at a point: `P` is said to start the sums over. -/
theorem body_run (c : Dev nD) (i : grid0.Coords) (P : Prop) [Decidable P] (e : isFirst i = 1#1 ↔ P)
    (arg1 : Memref sig .tc .vmem S128x2048 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S8x128 .f32) (harg6 : arg6.IsWhole)
    (arg7 : Memref sig .tc .vmem S128x2048 .f32) (harg7 : arg7.IsWhole) (arg8 : Memref sig .tc .vmem S128x2048 .f32) (harg8 : arg8.IsWhole)
    (arg9 : Memref sig .tc .vmem S1x2048 .f32) (harg9 : arg9.IsWhole) (arg10 : Memref sig .tc .vmem S1x2048 .f32) (harg10 : arg10.IsWhole)
    (x f t : Vec F S128x2048 .f32) (gate g : Vec F S1x2048 .f32)
    (a5 : Vec F S8x128 .f32) (a6 a7 : Vec F S128x2048 .f32) (a8 a9 : Vec F S1x2048 .f32) (E : Set ℕ) (K : PUnit → sProp 𝕄) :
    iprop(owns (c : Thread nD τ) arg1 fullShare x ∗ owns (c : Thread nD τ) arg2 fullShare f ∗ owns (c : Thread nD τ) arg3 fullShare t
        ∗ owns (c : Thread nD τ) arg4 fullShare gate ∗ owns (c : Thread nD τ) arg5 fullShare g ∗ owns (c : Thread nD τ) arg6 fullShare a5
        ∗ owns (c : Thread nD τ) arg7 fullShare a6 ∗ owns (c : Thread nD τ) arg8 fullShare a7 ∗ owns (c : Thread nD τ) arg9 fullShare a8
        ∗ owns (c : Thread nD τ) arg10 fullShare a9
        ∗ (iprop(owns (c : Thread nD τ) arg1 fullShare x ∗ owns (c : Thread nD τ) arg2 fullShare f ∗ owns (c : Thread nD τ) arg3 fullShare t
            ∗ owns (c : Thread nD τ) arg4 fullShare gate ∗ owns (c : Thread nD τ) arg5 fullShare g
            ∗ owns (c : Thread nD τ) arg6 fullShare (lossAfter x f t gate g P a5)
            ∗ owns (c : Thread nD τ) arg7 fullShare (dx x f t gate g)
            ∗ owns (c : Thread nD τ) arg8 fullShare (df x f t gate g)
            ∗ owns (c : Thread nD τ) arg9 fullShare (dgateAfter x f t gate g P a8)
            ∗ owns (c : Thread nD τ) arg10 fullShare (dgainAfter x f t gate g P a9)) -∗ K ⟨⟩))
      ⊢ wp frame (wpE (defs₀ (F := F)) Variants.none c none) E
          (cc0_loss_head i arg1 harg1 arg2 harg2 arg3 harg3 arg4 harg4 arg5 harg5 arg6 harg6 arg7 harg7 arg8 harg8 arg9 harg9 arg10 harg10) K := by
  simp only [cc0_loss_head_eq_skeleton]; unfold cc0_loss_head_skel
  simp only [k0_part1_eq_skeleton, k0_part2_eq_skeleton]
  unfold isFirst at e
  by_cases h0 : P
  all_goals
    simp only [h0, iff_true, iff_false] at e
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact e)
    sl_step
    iapply Hk
    have l1 := (View.readAt_full arg1.view (harg1.unread x) inb_S128x2048_S128x2048_0_0).trans (harg1.read_unread x)
    have l2 := (View.readAt_full arg2.view (harg2.unread f) inb_S128x2048_S128x2048_0_0).trans (harg2.read_unread f)
    have l3 := (View.readAt_full arg3.view (harg3.unread t) inb_S128x2048_S128x2048_0_0).trans (harg3.read_unread t)
    have l4 := (View.readAt_full arg4.view (harg4.unread gate) inb_S1x2048_S1x2048_0_0).trans (harg4.read_unread gate)
    have l5 := (View.readAt_full arg5.view (harg5.unread g) inb_S1x2048_S1x2048_0_0).trans (harg5.read_unread g)
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      refine (View.read_writes_full _ _ _ _ _).trans ?_
      simp only [lossAfter, h0, if_true, if_false]
      refine .trans (b := k0_pay22 (k0_pay13 _ _ _ _ _) _) rfl ?_
      refine congr (congrArg k0_pay22 (congr (congr (congr (congr (congrArg k0_pay13 l3) l1) l2) l4) l5)) ?_
      first
        | with_reducible exact (View.readAt_full arg6.view (harg6.unread a5) inb_S8x128_S8x128_0_0).trans (harg6.read_unread a5)
        | exact (View.readAt_full arg6.view _ inb_S8x128_S8x128_0_0).trans (View.read_writes_full _ _ _ _ _)
    isplitl [H7]
    · iexists _; isplitr
      swap; · iexact H7
      ipureintro
      refine (View.read_writes_full _ _ _ _ _).trans (.trans (b := dx _ _ _ _ _) rfl ?_)
      exact congr (congr (congr (congr (congrArg dx l1) l2) l3) l4) l5
    isplitl [H8]
    · iexists _; isplitr
      swap; · iexact H8
      ipureintro
      refine (View.read_writes_full _ _ _ _ _).trans (.trans (b := df _ _ _ _ _) rfl ?_)
      exact congr (congr (congr (congr (congrArg df l1) l2) l3) l4) l5
    isplitl [H9]
    · iexists _; isplitr
      swap; · iexact H9
      ipureintro
      refine (View.read_writes_full _ _ _ _ _).trans ?_
      simp only [dgateAfter, h0, if_true, if_false]
      refine .trans (b := k0_pay1 (k0_pay18 (k0_pay3 _) (k0_pay5 _) (k0_pay6 _ _ _) (k0_pay8 _ _ _) (k0_pay9 _ _ _) (k0_pay12 _ _ _ _ _)) _) rfl ?_
      refine congr (congrArg k0_pay1 ?_) ?_
      · rw [l1, l2, l3, l4, l5]
      first
        | with_reducible exact (View.readAt_full arg9.view (harg9.unread a8) inb_S1x2048_S1x2048_0_0).trans (harg9.read_unread a8)
        | exact (View.readAt_full arg9.view _ inb_S1x2048_S1x2048_0_0).trans (View.read_writes_full _ _ _ _ _)
    · iexists _; isplitr
      swap; · iexact H10
      ipureintro
      refine (View.read_writes_full _ _ _ _ _).trans ?_
      simp only [dgainAfter, h0, if_true, if_false]
      refine .trans (b := k0_pay2 (k0_pay15 (k0_pay10 _ _ _) (k0_pay12 _ _ _ _ _)) _) rfl ?_
      refine congr (congrArg k0_pay2 ?_) ?_
      · rw [l1, l2, l3, l4, l5]
      first
        | with_reducible exact (View.readAt_full arg10.view (harg10.unread a9) inb_S1x2048_S1x2048_0_0).trans (harg10.read_unread a9)
        | exact (View.readAt_full arg10.view _ inb_S1x2048_S1x2048_0_0).trans (View.read_writes_full _ _ _ _ _)

end Cert.Proof.StepLoss
-- ==== Proof.Rows.StepLossFrame.lean ====
/-
  The loss head's call run over its grid on each of the eight devices, and the sum of the devices' losses after it: what the
  staging buffers hold point by point, the obligation of the body, the run of @main, and the frame.
-/
module

public import proofs.«01_k».proof.Proof.Rows.StepLossBody
public import Idealize.ShloMosaic.Lib.Pipeline.FrameBody
public import Idealize.ShloMosaic.Lib.Pipeline.FrameTail
public import Idealize.ShloMosaic.Lib.Pipeline.RegionArraysS
public import Idealize.ShloMosaic.Lib.Pipeline.CollectiveSegs
public import Idealize.ShloMosaic.Lib.Pipeline.TableIdle
public import Idealize.ShloMosaic.Lib.Pipeline.Kit
public import Idealize.ShloMosaic.Lib.Claim

@[expose] public section

set_option maxRecDepth 16384

noncomputable section

namespace Cert.Proof.StepLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel34Ideal Cert.Kernel34Ideal.Gen
open Cert.Kernel34Ideal.Gen.Sites (L lv)

variable {F : FTy → Type} [FloatOps F]

/-- The state of the staging protocol, beside the state of the sum's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-! ## What the outputs hold -/

/-- A device's buffers as launched. -/
abbrev V₀ (c : Dev nD) : Valuation τ sig (Elt F) := fun b => m (c, b)

/-- The block of window `w`'s array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V₀ m c (Proc.devRef .tc (Pipeline.arrRef spec0 w)))

/-- The loss and the gradients of the gate and the gain. -/
abbrev Sums (F : FTy → Type) : Type := Vec F S8x128 .f32 × Vec F S1x2048 .f32 × Vec F S1x2048 .f32

/-- One point's change to them. -/
def step (c : Dev nD) (t : Fin cfg0.N) (a : Sums F) : Sums F :=
  (lossAfter (iblk m c 0 t) (iblk m c 1 t) (iblk m c 2 t) (iblk m c 3 t) (iblk m c 4 t) (t.val = 0) a.1,
    dgateAfter (iblk m c 0 t) (iblk m c 1 t) (iblk m c 2 t) (iblk m c 3 t) (iblk m c 4 t) (t.val = 0) a.2.1,
    dgainAfter (iblk m c 0 t) (iblk m c 1 t) (iblk m c 2 t) (iblk m c 3 t) (iblk m c 4 t) (t.val = 0) a.2.2)

/-- The three after point `n`. The first point starts them over, so what it is handed does not matter. -/
def sums (c : Dev nD) : (n : ℕ) → n < cfg0.N → Sums F
  | 0, h => step m c ⟨0, h⟩ (k0_pay19, k0_pay20, k0_pay21)
  | n + 1, h => step m c ⟨n + 1, h⟩ (sums c n (Nat.lt_of_succ_lt h))

/-- The proof data: the arrays as launched; after a point, the blocks in the inputs' buffers and the outputs' values in
    theirs; all the while the device owes what the sum after the call asks of it. -/
def dat0 (c : Dev nD) : Dat τ (Elt F) ℕ ℕ UU ℕ cfg0 c where
  A w := V₀ m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (sums m c t.val t.isLt).1
    | ⟨6, _⟩ => dx (iblk m c 0 t) (iblk m c 1 t) (iblk m c 2 t) (iblk m c 3 t) (iblk m c 4 t)
    | ⟨7, _⟩ => df (iblk m c 0 t) (iblk m c 1 t) (iblk m c 2 t) (iblk m c 3 t) (iblk m c 4 t)
    | ⟨8, _⟩ => (sums m c t.val t.isLt).2.1
    | ⟨9, _⟩ => (sums m c t.val t.isLt).2.2
  Φ _ := iprop(Pipeline.scopedRest spec0 c ∗ ∃ r, prngReg c r)
  q _ := fullShare
  owed _ := Sites.O0 (F := F) c

abbrev adm : (p : Fin 1) → (pcfgs (F := F) p).Adm := fun p => (cfgs p).toPCfg_adm

def pdats (_ : Fin 1) (c : Dev nD) : Dat τ (Elt F) ℕ ℕ UU ℕ cfg0 c := dat0 m c

theorem A_eq (c : Dev nD) (w : Fin cfg0.W) : (dat0 m c).A w = V₀ m c (Proc.devRef .tc (Pipeline.arrRef spec0 w)) := by dsimp only [dat0]

theorem before_0 (c : Dev nD) (t : Fin cfg0.N) (d) : (dat0 m c).before 0 t d = iblk m c 0 t :=
  ((dat0 m c).before_in_eq_fetched 0 rfl (fun _ => rfl) (fun _ _ _ => rfl) (fun t => by unfold Dat.blockOf; rw [A_eq]; rfl) t d).trans
    (by unfold Dat.fetched Dat.blockOf iblk; rw [A_eq]; try rfl)
theorem before_1 (c : Dev nD) (t : Fin cfg0.N) (d) : (dat0 m c).before 1 t d = iblk m c 1 t :=
  ((dat0 m c).before_in_eq_fetched 1 rfl (fun _ => rfl) (fun _ _ _ => rfl) (fun t => by unfold Dat.blockOf; rw [A_eq]; rfl) t d).trans
    (by unfold Dat.fetched Dat.blockOf iblk; rw [A_eq]; try rfl)
theorem before_2 (c : Dev nD) (t : Fin cfg0.N) (d) : (dat0 m c).before 2 t d = iblk m c 2 t :=
  ((dat0 m c).before_in_eq_fetched 2 rfl (fun _ => rfl) (fun _ _ _ => rfl) (fun t => by unfold Dat.blockOf; rw [A_eq]; rfl) t d).trans
    (by unfold Dat.fetched Dat.blockOf iblk; rw [A_eq]; try rfl)
theorem before_3 (c : Dev nD) (t : Fin cfg0.N) (d) : (dat0 m c).before 3 t d = iblk m c 3 t :=
  ((dat0 m c).before_in_eq_fetched 3 rfl (fun _ => rfl) (fun _ _ _ => rfl) (fun t => by unfold Dat.blockOf; rw [A_eq]; rfl) t d).trans
    (by unfold Dat.fetched Dat.blockOf iblk; rw [A_eq]; try rfl)
theorem before_4 (c : Dev nD) (t : Fin cfg0.N) (d) : (dat0 m c).before 4 t d = iblk m c 4 t :=
  ((dat0 m c).before_in_eq_fetched 4 rfl (fun _ => rfl) (fun _ _ _ => rfl) (fun t => by unfold Dat.blockOf; rw [A_eq]; rfl) t d).trans
    (by unfold Dat.fetched Dat.blockOf iblk; rw [A_eq]; try rfl)

/-- Every window is live at every point. -/
theorem live : ∀ w : Fin cfg0.W, ∀ t : Fin cfg0.N, cfg0.idle w (cfg0.grid.coords t) = false := by decide +kernel

/-- The buffers of the loss and of the gradients of the gate and the gain are kept from point to point. -/
theorem kept : ∀ t : Fin cfg0.N, ¬t.val = 0 → cfg0.fresh 5 t.val = false ∧ cfg0.fresh 8 t.val = false ∧ cfg0.fresh 9 t.val = false := by
  decide +kernel

/-- A kept output's buffer holds at a point what the point before left. -/
theorem before_kept (c : Dev nD) (w : Fin cfg0.W) (hw : (cfg0.win w).isOut = true)
    (hclip : ∀ (i : cfg0.grid.Coords) a, (cfg0.win w).clip i a = none) (t : Fin cfg0.N) (hf : cfg0.fresh w t.val = false) (d) :
    (dat0 m c).before w t d = (dat0 m c).after w ⟨t.val - 1, by omega⟩ := by
  rw [Dat.before_out_traj _ w hw hclip (fun t _ hi _ => absurd ((live w t).symm.trans hi) Bool.false_ne_true) t.val t rfl d,
    if_neg (by rw [hf]; exact Bool.false_ne_true)]

theorem sums_pos (c : Dev nD) (t : Fin cfg0.N) (h : ¬t.val = 0) :
    sums m c t.val t.isLt = step m c t (sums m c (t.val - 1) (by omega)) := by
  obtain ⟨n, hn⟩ := t
  cases n with
  | zero => exact absurd rfl h
  | succ n => rfl

theorem sums_zero (c : Dev nD) (t : Fin cfg0.N) (h : t.val = 0) :
    sums m c t.val t.isLt = step m c t (k0_pay19, k0_pay20, k0_pay21) := by
  obtain ⟨n, hn⟩ := t
  obtain rfl : n = 0 := h
  rfl

/-- The point's change to what the three buffers held is what the proof data say. -/
theorem after_step (c : Dev nD) (t : Fin cfg0.N) (d5 d8 d9) :
    step m c t ((dat0 m c).before 5 t d5, (dat0 m c).before 8 t d8, (dat0 m c).before 9 t d9) = sums m c t.val t.isLt := by
  by_cases h : t.val = 0
  · rw [sums_zero m c t h]; unfold step lossAfter dgateAfter dgainAfter; simp only [if_pos h]
  · obtain ⟨k5, k8, k9⟩ := kept t h
    rw [sums_pos m c t h, before_kept m c 5 rfl (fun _ _ => rfl) t k5 d5, before_kept m c 8 rfl (fun _ _ => rfl) t k8 d8,
      before_kept m c 9 rfl (fun _ _ => rfl) t k9 d9]
    rfl

/-! ## The body's obligation -/

/-- What the body is called with at point `t`. -/
def bodyPre (c : Dev nD) (t : Fin cfg0.N) : sProp 𝕄 :=
  iprop((dat0 m c).Φ t.castSucc ∗ (dat0 m c).owesAt 0 t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d))
    ∗ (∃ d, owns (c : Thread nD τ) (st0_6 t) fullShare ((dat0 m c).before 6 t d))
    ∗ (∃ d, owns (c : Thread nD τ) (st0_7 t) fullShare ((dat0 m c).before 7 t d))
    ∗ (∃ d, owns (c : Thread nD τ) (st0_8 t) fullShare ((dat0 m c).before 8 t d))
    ∗ (∃ d, owns (c : Thread nD τ) (st0_9 t) fullShare ((dat0 m c).before 9 t d)))

/-- What it returns. -/
def bodyPost (c : Dev nD) (t : Fin cfg0.N) : sProp 𝕄 :=
  iprop((dat0 m c).Φ t.succ ∗ (dat0 m c).owesAt 0 t.succ
    ∗ (dat0 m c).leavesExact 0 t ∗ (dat0 m c).leavesExact 1 t ∗ (dat0 m c).leavesExact 2 t
    ∗ (dat0 m c).leavesExact 3 t ∗ (dat0 m c).leavesExact 4 t ∗ (dat0 m c).leavesExact 5 t
    ∗ (dat0 m c).leavesExact 6 t ∗ (dat0 m c).leavesExact 7 t ∗ (dat0 m c).leavesExact 8 t
    ∗ (dat0 m c).leavesExact 9 t)

/-- A live window's buffer is left at what the proof data say. -/
theorem leaves (c : Dev nD) (w : Fin cfg0.W) (t : Fin cfg0.N) :
    (dat0 m c).leavesExact w t = owns (c : Thread nD τ) ((cfg0.win w).stage (cfg0.slots t w)) fullShare ((dat0 m c).after w t) := by
  unfold Dat.leavesExact; rw [live w t]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dat0 m c).Φ t.succ = (dat0 m c).Φ t.castSucc from rfl,
    show (dat0 m c).owesAt 0 t.succ = (dat0 m c).owesAt 0 t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hs := after_step m c t d5 d8 d9
  iapply (body_run c (grid0.coords t) (t.val = 0) (isFirst_iff t) _ _ _ _ _ _ _ _ _ _ _ _ _ _ _ _ _ _ _ _
    (iblk m c 0 t) (iblk m c 1 t) (iblk m c 2 t) (iblk m c 3 t) (iblk m c 4 t) _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [show lossAfter _ _ _ _ _ _ _ = (sums m c t.val t.isLt).1 from congrArg Prod.fst hs,
    show dgateAfter _ _ _ _ _ _ _ = (sums m c t.val t.isLt).2.1 from congrArg (fun a => a.2.1) hs,
    show dgainAfter _ _ _ _ _ _ _ = (sums m c t.val t.isLt).2.2 from congrArg (fun a => a.2.2) hs]
  simp only [leaves]
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat0 (F := F) m c) (defs₀ (F := F)) Variants.none 0 Set.univ := fun t => by
  rw [bigSep_W0, bigSep_W0, defs₀_row]
  exact triple_restated (sound_body m c t) rfl .rfl fun _ => .rfl

/-! ## The statements of @main -/

/-- A device's buffers after the call, -/
def V₁ (c : Dev nD) : Valuation τ sig (Elt F) := Pipeline.afterRegion (pdats m 0 c) (V₀ m c)
/-- after the loss has been taken out of its tile, -/
def V₂ (c : Dev nD) : Valuation τ sig (Elt F) := StableHlo.after hostOps1 (V₁ m c)
/-- and after the sum over the devices. -/
def V₃ (c : Dev nD) : Valuation τ sig (Elt F) := (ar0 (F := F)).after₀ (V₂ m) c

local notation "ℍ" => Pipeline.HostSeg (Name := ℕ) (U := UU) (pcfgs (F := F)) defs₀ Variants.none L lv
local notation "ℝ𝕊" => Pipeline.RegionSeg (pcfgs (F := F)) adm (pdats m) 0 defs₀ Variants.none L lv

/-- The sum's records, shared by the devices. -/
abbrev records : sProp 𝕄 := iprop(∃ κ, (AllReduce.Dat.once (ar0 (F := F)) (V₂ m)).cellInvs (Sites.E0 EC) κ)

/-- The call's own waits come before the sum's. -/
theorem cut0 : Pipeline.LevelCut (pcfgs (F := F)) adm 0 L lv 0 (Sites.O0 (F := F)) (fun _ => 0) :=
  ⟨fun _ _ _ => Sites.mem_L _ _ (by decide), fun _ _ _ => le_refl _, fun _ _ _ hg => ⟨(Sites.O0_pos hg).1, (Sites.O0_pos hg).2⟩⟩

theorem arrays_sub : Pipeline.arrRefs (pcfgs (F := F) 0).spec ⊆ Pipeline.ucRefs τ sig := by
  show Pipeline.arrRefs spec0 ⊆ Pipeline.ucRefs τ sig
  decide

/-- The call. -/
def call : ℝ𝕊 0 :=
  Pipeline.RegionSeg.ofHeldIn (pcfgs (F := F)) adm (pdats m) 0 defs₀ Variants.none L lv 0 (Sites.O0 (F := F)) (Pipeline.ucRefs τ sig)
    (fun c => iprop(∃ r, prngReg c r)) (fun c => iprop(∃ r, prngReg c r)) launch0.toP rfl
    (fun c => (body_obligation m c).loose) (fun _ _ => rfl) (fun _ => rfl) (fun c => (pdats m 0 c).share_full fun _ => rfl)
    (fun _ => .rfl) (fun _ => .rfl) (fun _ => 0) cut0 (Sites.rides0 EC (V₂ m)) (V₀ m) (fun c w => A_eq m c w)

/-- Taking the loss out of its tile. -/
def take : ℍ :=
  Pipeline.HostSeg.ofOps _ _ _ _ _ (Pipeline.ucRefs τ sig) (hostOps1 (F := F))
    (fun op h => Pipeline.sub_ucRefs op ((List.forall_iff_forall_mem.mp hostOps1_sub) op h))
    (by intro _ h; (repeat (cases h with | head => rfl | tail _ h => ?_)); exact nomatch h) (V₁ m) (Sites.Es EC (V₂ m) 0)

/-- The sum over the devices. -/
def sum : ℍ := Sites.seg0 EC Variants.none (V₂ m) (Sites.Rest0 (V₂ m) fun _ => records m)

def segs : List (Pipeline.Seg (pcfgs (F := F)) adm (pdats m) 0 defs₀ Variants.none L lv) := [.region (call m), .host (take m), .host (sum m)]

theorem main_eq (c : Dev nD) : main (F := F) c = Pipeline.Seg.run (segs m) :=
  main_segs adm (pdats m) 0 Variants.none L lv (take m) (sum m) (call m) rfl rfl c

/-- What a device starts with. -/
abbrev T₀ (c : Dev nD) : sProp 𝕄 :=
  iprop(StableHlo.held (c : Thread nD τ) (Pipeline.ucRefs τ sig) (V₀ m c) ∗ Sites.Es EC (V₂ m) 0 c)

/-- What it ends with. -/
abbrev Tₙ (c : Dev nD) : sProp 𝕄 :=
  iprop(StableHlo.held (c : Thread nD τ) (Pipeline.ucRefs τ sig) (V₃ m c) ∗ Sites.Ghost0 EC c ∗ records m)

theorem T₀_call (c : Dev nD) : T₀ m c ⊢ (call (F := F) m).pre c := by
  refine .trans ?_ (Pipeline.RegionSeg.ofHeldIn_pre (arrays_sub (F := F)) c)
  exact BIBase.Entails.refl

theorem call_take (c : Dev nD) : (call (F := F) m).post c ⊢ (take m).pre c :=
  Pipeline.RegionSeg.ofHeldIn_post (arrays_sub (F := F)) c

theorem take_sum (c : Dev nD) : (take (F := F) m).post c ⊢ (sum m).pre c := by
  refine .trans ?_ (Sites.pre0 EC Variants.none (V₂ m) (fun _ => records m) c)
  show iprop(StableHlo.held (c : Thread nD τ) (Pipeline.ucRefs τ sig) (V₂ m c) ∗ Sites.Es EC (V₂ m) 0 c) ⊢ _
  rw [Sites.Es_0]
  iintro ⟨Hh, HO, Hp, Hr⟩
  ihave #Hi := (show Sites.rides0 EC (V₂ m) c ⊢ records m from by unfold Sites.rides0 AllReduce.Dat.rides; iintro ⟨Hi, -⟩; iexact Hi) $$ Hr
  isplitl [Hh]; · iexact Hh
  isplitl [HO Hp Hr]
  · isplitl [HO]; · iexact HO
    isplitl [Hp] <;> iassumption
  iexact Hi

theorem sum_end (c : Dev nD) : (sum (F := F) m).post c ⊢ iprop(Tₙ m c ∗ ∃ W, owes (c : Thread nD τ) (0 : CellTallies nD τ sig ℕ) W) := by
  refine (Sites.post0 EC Variants.none (V₂ m) (fun _ => records m) c).trans ?_
  rw [Sites.Es_1]; dsimp only [Sites.O1]
  iintro ⟨Hh, ⟨HO, -, -⟩, Hg, Hi⟩
  isplitr [HO]
  · isplitl [Hh]; · iexact Hh
    isplitl [Hg] <;> iassumption
  iexact HO

/-- The state the launch sets up. -/
def u₀ : UU :=
  (initOf (Pipeline.cells (Pipeline.pin (pcfgs (F := F)) adm) cellOf_inj) (Pipeline.launchToks (Pipeline.pin (pcfgs (F := F)) adm) cellOf_inj),
    Sites.uC (U := UU) (V₂ m))

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₂ m) c)) ∗ levAts L lv)
      ⊢ (|={Set.univ}=> bigSep Finset.univ (T₀ m) : sProp 𝕄) := by
  iintro ⟨H, HL⟩
  ihave H' := (show _ ⊢ iprop((bigSep Finset.univ fun c : Dev nD => StableHlo.held (c : Thread nD τ) (Pipeline.ucRefs τ sig) (V₀ m c))
        ∗ bigSep Finset.univ fun c : Dev nD => iprop(unscopedSems0 c ∗ owes (c : Thread nD τ) (Sites.O0 (F := F) c) ∅
          ∗ Pipeline.launchCred (Sites.O0 (F := F)) c ∗ prngReg c (ρ c) ∗ Sites.G EC (V₂ m) c))
      from by
        rw [← bigSep_sep']
        refine bigSep_mono fun c _ => ?_
        rw [show unscopedBufs c (fun b => m ((c : Thread nD τ).loc b)) = StableHlo.held (c : Thread nD τ) (Pipeline.ucRefs τ sig) (V₀ m c)
          from Pipeline.unscopedBufs_held (Ix := ℕ) (Name := ℕ) (U := UU) (Lvl := ℕ) c (V₀ m c)]
        exact .refl _) $$ H
  icases H' with ⟨Hh, Hr⟩
  imod (Sites.hE0 EC (V₂ m) ρ) $$ [Hr HL] with HE
  · isplitl [Hr] <;> iassumption
  imodintro
  iapply (show iprop((bigSep Finset.univ fun c : Dev nD => StableHlo.held (c : Thread nD τ) (Pipeline.ucRefs τ sig) (V₀ m c))
        ∗ bigSep Finset.univ (Sites.Es EC (V₂ m) 0)) ⊢ bigSep Finset.univ (T₀ m) from by rw [← bigSep_sep'])
  isplitl [Hh] <;> iassumption

set_option backward.isDefEq.respectTransparency.types false in
/-- @main runs to the end on the eight devices, each buffer at what the statements leave there, every counter at zero. -/
theorem run_main : θ_run defs (onTc (τ := τ) (main (F := F))) ⟨m, fun _ => 0, ρ⟩
    (fun r => (∀ (c : Dev nD) (b : Ref sig .tc), b.isScoped = false → r.2.mem ((c : Thread nD τ).loc b) = V₃ m c (Proc.devRef .tc b))
      ∧ r.2.sem = fun _ => 0) :=
  Pipeline.θ_run_regions_kit_sems (pcfgs (F := F)) adm (pdats m) 0 cellOf_inj EP defs₀ Variants.none L lv m ρ main (segs m)
    (fun c Q => by rw [main_eq m c])
    (by simp only [segs, Pipeline.Seg.pipes_host, Pipeline.Seg.pipes_region, Pipeline.Seg.pipes_nil]; decide)
    (O₀ := Sites.O0 (F := F)) (hL := Sites.hL) (G := Sites.G EC (V₂ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨T₀_call m, call_take m, take_sum m, sum_end m⟩)
    (hinit := init m ρ)
    (QY := fun c s => (∀ b ∈ Pipeline.ucRefs τ sig, s.mem ((c.tc : Thread nD τ).1, b) = V₃ m c b)
      ∧ s.sem ((ar0 (F := F)).barrierCell c) = 0 ∧ s.sem ((ar0 (F := F)).recvCell c) = 0 ∧ s.sem ((ar0 (F := F)).sendCell c) = 0)
    (hfin := fun c s' => by
      iintro ⟨⟨Hh, Hg, Hi⟩, HSI⟩
      imod ((AllReduce.Dat.once (ar0 (F := F)) (V₂ m)).ghostAfter_read (Sites.E0 EC) c (k := 0) le_rfl s') $$ [Hg Hi HSI] with ⟨%ha, HSI⟩
      · isplitl [Hg Hi]
        · isplitl [Hi] <;> iassumption
        iexact HSI
      unfold StableHlo.held
      ihave Hr := (pointsTo_read_all (Pipeline.ucRefs τ sig) (fun b => ((c.tc : Thread nD τ).1, b)) (V₃ m c) s') $$ [Hh HSI]
      · isplitl [Hh] <;> iassumption
      icases Hr with ⟨%hr, HSI⟩
      imodintro
      isplitr; · ipureintro; exact ⟨hr, ha⟩
      iexact HSI)
    (hQ := fun s h hs => ⟨fun c b hb => (h c).1 (Proc.devRef .tc b) (Pipeline.devRef_mem_ucRefs hb), sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-! ## What no statement changes -/

/-- No argument is the sum's result or one of its exchange buffers. -/
theorem apart : ∀ b ∈ [main_arg0, main_arg1, main_arg2, main_arg3, main_arg4], b ≠ main_v4 ∧ ∀ j, b ≠ ar0_stage j := by decide

set_option backward.isDefEq.respectTransparency.types false in
/-- An argument ends as launched. -/
theorem V₃_keeps (c : Dev nD) (b : Ref sig .tc) (hb : b ∈ [main_arg0, main_arg1, main_arg2, main_arg3, main_arg4]) :
    V₃ m c (Proc.devRef .tc b) = m ((c : Thread nD τ).loc b) := by
  unfold V₃
  simp only [List.mem_cons, List.not_mem_nil, or_false] at hb
  rcases hb with rfl | rfl | rfl | rfl | rfl
  all_goals
    refine ((ar0 (F := F)).after₀_of_notMem (V₂ m) c fun h => ?_).trans ?_
    · rcases Finset.mem_insert.mp h with h | h
      · exact (apart _ (by decide)).1 (Proc.devRef_injective _ h)
      · obtain ⟨j, hj⟩ := (ar0 (F := F)).mem_stageRefs.mp h
        exact (apart _ (by decide)).2 j (Proc.devRef_injective _ hj)
    · unfold V₂ hostOps1
      after_region_results
      exact Pipeline.afterRegion_keeps (pdats m 0 c) (V₀ m c) launch0.win.arr_inj (fun w => A_eq m c w) _ (by decide)

/-- @main ends, its arguments as they were, every counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  θ_run_mono (run_main m ρ) fun r ⟨h, hs⟩ => ⟨fun c =>
    ⟨(h c _ (by decide)).trans (V₃_keeps m c _ (by decide)), (h c _ (by decide)).trans (V₃_keeps m c _ (by decide)),
      (h c _ (by decide)).trans (V₃_keeps m c _ (by decide)), (h c _ (by decide)).trans (V₃_keeps m c _ (by decide)),
      (h c _ (by decide)).trans (V₃_keeps m c _ (by decide))⟩, hs⟩

end Cert.Proof.StepLoss
-- ==== Proof.Rows.StepLoss.lean ====
/-
  The loss of the step, kernel against reference, at the ideal instance: each of the eight devices sums its rows' parts over
  the blocks of 128 rows and the sum over the devices adds the eight shares; half of a sum is the sum of the halves, so that
  is half the sum over all rows.
-/
module

public import proofs.«01_k».proof.Defs
public import proofs.«01_k».proof.Proof.Rows.LossHead
public import proofs.«01_k».proof.Proof.Rows.StepLossFrame
public import proofs.«01_k».proof.Proof.Gen.Reference34Ideal.Run

@[expose] public section

set_option maxRecDepth 16384
set_option maxHeartbeats 1000000

noncomputable section

namespace Cert.Proof.StepLoss

open Rows
open LossHead (half half_sum rowLoss loss)
open Idealize.ShloMosaic Idealize.ShloMosaic.TcCoe Idealize.SL.Sem
open Cert.Kernel34Ideal Cert.Kernel34Ideal.Gen

/-! ## One device's share -/

section
variable (m : (ℓ : Loc nD τ sig) → Buf (Elt Ideal) ℓ) (ρ : Dev nD → PrngReg) (c : Dev nD)

abbrev X : S2048x2048.Idx → EReal := m (c.tc.loc main_arg0)
abbrev F' : S2048x2048.Idx → EReal := m (c.tc.loc main_arg1)
abbrev T : S2048x2048.Idx → EReal := m (c.tc.loc main_arg2)
abbrev gate : S1x2048.Idx → EReal := m (c.tc.loc main_arg3)
abbrev G : S1x2048.Idx → EReal := m (c.tc.loc main_arg4)

/-- Row `r` of grid point `t`'s block. -/
def at' (t : Fin cfg0.N) (r : Fin 128) : Fin 2048 := ⟨128 * t.val + r.val, by have : t.val < 16 := t.isLt; omega⟩

/-- The block of each array that grid point `t` works on. -/
theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![0, 0] :=
  (by decide +kernel : ∀ t : Fin grid0.N, _)

theorem blk0 (t : Fin cfg0.N) (r : Fin 128) (l : Fin 2048) : iblk m c 0 t (ix2 r l) = X m c (ix2 (at' t r) l) := by
  unfold at'; blk_ext [iblk, V₀, idx t]
theorem blk1 (t : Fin cfg0.N) (r : Fin 128) (l : Fin 2048) : iblk m c 1 t (ix2 r l) = F' m c (ix2 (at' t r) l) := by
  unfold at'; blk_ext [iblk, V₀, idx t]
theorem blk2 (t : Fin cfg0.N) (r : Fin 128) (l : Fin 2048) : iblk m c 2 t (ix2 r l) = T m c (ix2 (at' t r) l) := by
  unfold at'; blk_ext [iblk, V₀, idx t]
theorem blk3 (t : Fin cfg0.N) (l : Fin 2048) : iblk m c 3 t (ix2 0 l) = gate m c (ix2 0 l) := by
  blk_ext [iblk, V₀, idx t]
theorem blk4 (t : Fin cfg0.N) (l : Fin 2048) : iblk m c 4 t (ix2 0 l) = G m c (ix2 0 l) := by
  blk_ext [iblk, V₀, idx t]

/-- The device's loss, row by row. -/
abbrev kLoss := rowLoss (X m c) (F' m c) (T m c) (gate m c) (G m c)

/-- What grid point `t` adds to the loss. -/
def lossTerm (t : Fin cfg0.N) : S8x128.Idx → EReal := fun _ => half * ∑ r : Fin 128, kLoss m c (at' t r)

/-- A point's change to the loss it finds. -/
theorem point (t : Fin cfg0.N) (a : Sums Ideal) (y : S8x128.Idx) :
    (step m c t a).1 y = (if t.val = 0 then 0 else a.1 y) + lossTerm m c t y := by
  unfold step lossAfter
  by_cases h : t.val = 0
  all_goals
    simp only [h, if_true, if_false]
    idx_vars y
    unfold_payloads
    pointwise
    simp only [Fin.sum_univ_one, blk0, blk1, blk2, blk3, blk4]
    rfl

theorem first (t : Fin cfg0.N) (h : t.val % 16 = 0) (y : S8x128.Idx) : (sums m c t.val t.isLt).1 y = 0 + lossTerm m c t y := by
  have h' : t.val = 0 := by have : t.val < 16 := t.isLt; omega
  rw [sums_zero m c t h', point, if_pos h']

theorem next (t : Fin cfg0.N) (h : ¬ t.val % 16 = 0) (y : S8x128.Idx) :
    (sums m c t.val t.isLt).1 y = (sums m c (t.val - 1) (Nat.lt_of_le_of_lt (Nat.sub_le _ _) t.isLt)).1 y + lossTerm m c t y := by
  have h' : ¬t.val = 0 := fun e => h (by rw [e])
  rw [sums_pos m c t h', point, if_neg h']

/-- The sum over the points is half the sum over the rows. -/
theorem sum_loss (t : Fin cfg0.N) (h : t.val % 16 = 15) (y : S8x128.Idx) :
    (0 : EReal) + ∑ s : Fin 16, lossTerm m c ⟨16 * (t.val / 16) + s.val, Pipeline.run_point_lt_of_flush t h s⟩ y =
      loss (X m c) (F' m c) (T m c) (gate m c) (G m c) :=
  ((zero_add _).trans (half_sum _)).trans
    (congrArg (half * ·) (sum_blocks (kLoss m c) t.val (by have : t.val < 16 := t.isLt; omega) _))

/-- What the call leaves in every place of the loss's tile. -/
theorem finals : (dat0 m c).arrAt 5 cfg0.N = (fun _ => loss (X m c) (F' m c) (T m c) (gate m c) (G m c)) := by
  refine (dat0 m c).arrAt_eq_of_covers 5 _ (by decide +kernel) fun t hf y => ?_
  blk_simp
  have h : t.val % 16 = 15 := (flush0_5 t).mp hf
  exact (Pipeline.eq_sum_fin_of_reset_step_apply_of_flush (fun n h => (sums m c n h).1) 16 (fun _ => 0)
    (lossTerm m c) (fun t h => first m c t h) (fun t h => next m c t h) t h y).trans (sum_loss m c t h y)

/-- What the device hands to the sum. -/
theorem share : V₂ m c (Proc.devRef .tc main_v3) = (fun _ => loss (X m c) (F' m c) (T m c) (gate m c) (G m c)) := by
  unfold V₂ hostOps1
  after_region_results
  unfold V₁
  erw [Pipeline.afterRegion_arr (pdats m 0 c) _ launch0.win.arr_inj 5]
  refine (congrArg (fun A => shapeCast S_ (extractStridedSlice S1x1 ![0, 0] A slices_S8x128_S1x1_0_0) shapeCasts_S1x1_S_) (finals m c)).trans ?_
  rfl

/-! ## The sum over the devices -/

omit m ρ c in
/-- Any device's group has the devices in their order. -/
theorem peer_eq (c : Dev nD) (j : Fin 8) : (ar0 (F := Ideal)).peer c j = j := by
  show ar0_mem ((ar0_pos c).1, j) = j
  generalize (ar0_pos c).1 = q
  obtain rfl : q = 0 := Subsingleton.elim _ _
  revert j; decide

omit m ρ c in
/-- The sum adds the devices' values in their order. -/
theorem fold_eq (v : Fin 8 → S_.Idx → EReal) : (ar0 (F := Ideal)).foldGroup v = fun i => ∑ d, v d i := by
  funext i
  rw [Fin.sum_univ_eight]
  rfl

/-- What every device ends with: the sum of the eight shares. -/
theorem total : V₃ m c (Proc.devRef .tc main_v4) =
    (fun _ => ∑ d : Fin 8, loss (X m d) (F' m d) (T m d) (gate m d) (G m d)) := by
  unfold V₃
  refine ((ar0 (F := Ideal)).after₀_result (V₂ m) c).trans ?_
  have h : (fun j : Fin 8 => V₂ m ((ar0 (F := Ideal)).peer c j) (Proc.devRef .tc main_v3)) =
      fun j _ => loss (X m j) (F' m j) (T m j) (gate m j) (G m j) :=
    funext fun j => (congrArg (fun d => V₂ m d (Proc.devRef .tc main_v3)) (peer_eq c j)).trans (share m j)
  refine (congrArg (fun v => (ar0 (F := Ideal)).toResult ((ar0 (F := Ideal)).foldGroup v)) h).trans ?_
  exact (cast_eq _ _).trans (fold_eq fun j _ => loss (X m j) (F' m j) (T m j) (gate m j) (G m j))

/-- The program ends with that in its result and its arguments unchanged. -/
theorem run : θ_run defs (onTc (τ := τ) (main (F := Ideal))) ⟨m, fun _ => 0, ρ⟩ (fun r => ∀ c : Dev nD,
      r.2.mem ((c.tc : Thread nD τ).loc main_v4) = (fun _ => ∑ d : Fin 8, loss (X m d) (F' m d) (T m d) (gate m d) (G m d))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.1 c main_v4 (by decide)).trans (total m c), h.2.1 c⟩)
    (θ_run_and (run_main m ρ) (frame m ρ))

end

/-! ## The reference -/

section
open Cert.Reference34Ideal.Value

variable (m : (ℓ : Loc Cert.Reference34Ideal.nD Cert.Reference34Ideal.τ Cert.Reference34Ideal.sig) → Buf (Elt Ideal) ℓ)
  (c : Dev Cert.Reference34Ideal.nD) (d : Fin 8)

/-- The rows of the eight samples' arrays that belong to sample `d`. -/
def rowsOf (A : Cert.Reference34Ideal.S16384x2048.Idx → EReal) (d : Fin 8) : S2048x2048.Idx → EReal :=
  fun i => A (ix2 ⟨d.val * 2048 + (i 0).val, by have : (i 0).val < 2048 := (i 0).isLt; omega⟩ (i 1))

/-- Sample `d`'s gate. -/
def gateOf (A : Cert.Reference34Ideal.S8x2048.Idx → EReal) (d : Fin 8) : S1x2048.Idx → EReal := fun i => A (ix2 d (i 1))

abbrev rX := rowsOf (m (c.tc.loc Cert.Reference34Ideal.main_arg0))
abbrev rF := rowsOf (m (c.tc.loc Cert.Reference34Ideal.main_arg1))
abbrev rT := rowsOf (m (c.tc.loc Cert.Reference34Ideal.main_arg2))
abbrev rGate := gateOf (m (c.tc.loc Cert.Reference34Ideal.main_arg3))
abbrev rG : S1x2048.Idx → EReal := m (c.tc.loc Cert.Reference34Ideal.main_arg4)

theorem ref : res_out0 m c = fun _ => ∑ d : Fin 8, loss (rX m c d) (rF m c d) (rT m c d) (rGate m c d) (rG m c) := by
  funext i
  unfold res_out0 res_main_v26
  clean_types
  pointwise
  exact (half_sum fun d => ∑ r, rowLoss (rX m c d) (rF m c d) (rT m c d) (rGate m c d) (rG m c) r).symm

end

/-! ## The claims -/

/-- A device's rows are its sample's. -/
theorem block_rows (A : Cert.Reference34Ideal.S16384x2048.Idx → EReal) (d : Fin 8) :
    Layout.block (⟨2, ![2048, 2048]⟩ : Shape) ⟨2, ![16384, 2048]⟩ 0 8 d A = rowsOf A d := by
  funext i
  refine congrArg A (funext fun a => ?_)
  fin_cases a <;> rfl

/-- A device's gate is its sample's. -/
theorem block_gate (A : Cert.Reference34Ideal.S8x2048.Idx → EReal) (d : Fin 8) :
    Layout.block (⟨2, ![1, 2048]⟩ : Shape) ⟨2, ![8, 2048]⟩ 0 8 d A = gateOf A d := by
  funext i
  refine congrArg A (funext fun a => ?_)
  fin_cases a
  · have : (i 0).val < 1 := (i 0).isLt
    exact Fin.ext (by show d.val * 1 + (i 0).val = d.val; omega)
  · rfl

/-- Every device ends with the reference's loss. -/
theorem algebraic : Cert.algebraic_Kernel34Ideal_Reference34Ideal := by
  intro m g m' g' _ hagree
  refine ⟨Cert.Reference34Ideal.Value.res_out0 m' 0, θ_run_mono (run m g) fun r hr c => ?_,
    θ_run_mono (Cert.Reference34Ideal.Value.run m' g') fun r hr => hr 0⟩
  refine ⟨(hr c).1.trans ((ref m' 0).trans ?_).symm, (hr c).2⟩
  refine funext fun _ => Finset.sum_congr rfl fun d _ => ?_
  obtain ⟨a0, a1, a2, a3, a4⟩ := hagree d
  unfold X F' T gate G
  rw [a0, a1, a2, a3, a4, block_rows, block_rows, block_rows, block_gate]

/-- The reference ends, its arguments unchanged; it declares no semaphore. -/
theorem frameR : Cert.quiescent_Reference34Ideal := by
  intro m ρ _
  run_from Cert.Reference34Ideal.Value.run m ρ
  · exact fun _ => ⟨trivial, trivial, trivial, trivial, trivial⟩
  · funext x
    rcases x with ⟨_, ⟨i⟩ | ⟨i⟩⟩ <;> exact i.elim0

end Cert.Proof.StepLoss
-- ==== Proof.Rows.StepLossBits.lean ====
/-
  The frame of the step's loss on bits: the two programs are the same text under two names, so the one's run is the
  other's.
-/
module

public import proofs.«01_k».proof.Defs
public import proofs.«01_k».proof.Proof.Rows.StepLossFrame
public import proofs.«01_k».proof.Proof.Gen.Kernel34.Launch

@[expose] public section

noncomputable section

namespace Cert.Proof.StepLoss

open Idealize.ShloMosaic Idealize.ShloMosaic.TcCoe Idealize.SL.Sem

/-- The two programs' body tables are the same. -/
theorem table [h : Cert.Kernel34.Facts] [h' : Cert.Kernel34Ideal.Facts] :
    @Cert.Kernel34.defs₀ Bits _ h = @Cert.Kernel34Ideal.defs₀ Bits _ h' := by
  refine congrArg Defs.onTc (funext fun l => funext fun x => ?_)
  obtain rfl : l = (0 : Fin 1) := Subsingleton.elim (α := Fin 1) _ _
  obtain ⟨t, s⟩ := x
  rfl

/-- The program on bits ends, its arguments unchanged. -/
theorem frameBits : Cert.quiescent_Kernel34 := fun m ρ _ =>
  (congrArg (fun d : Defs Cert.Kernel34.nD Cert.Kernel34.τ Cert.Kernel34.sig (Elt Bits) Cert.Kernel34.Λ₀ =>
    θ_run (Pipeline.defs Cert.Kernel34.pcfgs d) (onTc (τ := Cert.Kernel34.τ) (Cert.Kernel34.main (F := Bits))) ⟨m, fun _ => 0, ρ⟩ _)
    table).mpr (frame (F := Bits) m ρ)

end Cert.Proof.StepLoss
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Reference30Ideal
public import proofs.«01_k».proof.Proof.Gen.Kernel30Ideal.Value
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Reference31Ideal
public import proofs.«01_k».proof.Proof.Gen.Kernel31Ideal.Value
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Reference32Ideal
public import proofs.«01_k».proof.Proof.Gen.Kernel32Ideal.Value
public import proofs.«01_k».proof.Proof.Gen.Reference32Ideal.Run
public import proofs.«01_k».proof.Proof.Gen.Kernel33
public import proofs.«01_k».proof.Proof.Gen.Kernel33Ideal
public import proofs.«01_k».proof.Proof.Gen.Reference33Ideal
public import proofs.«01_k».proof.Proof.Gen.Reference33Ideal.Run
public import proofs.«01_k».proof.Proof.Gen.Kernel34
public import proofs.«01_k».proof.Proof.Gen.Kernel34.Launch
public import proofs.«01_k».proof.Proof.Gen.Kernel34Ideal
public import proofs.«01_k».proof.Proof.Gen.Kernel34Ideal.Launch
public import proofs.«01_k».proof.Proof.Gen.Kernel34Ideal.Skeleton
public import proofs.«01_k».proof.Proof.Gen.Kernel34Ideal.Points
public import proofs.«01_k».proof.Proof.Gen.Reference34Ideal
public import proofs.«01_k».proof.Proof.Gen.Reference34Ideal.Run
public import proofs.«01_k».proof.Proof.Conv
public import proofs.«01_k».proof.Proof.Products.W13Fwd
public import proofs.«01_k».proof.Proof.Products.W13Da
public import proofs.«01_k».proof.Proof.Products.W13Dw
public import proofs.«01_k».proof.Proof.Products.W2Fwd
public import proofs.«01_k».proof.Proof.Products.W2Da
public import proofs.«01_k».proof.Proof.Products.W2Dw
public import proofs.«01_k».proof.Proof.Products.WinFwd
public import proofs.«01_k».proof.Proof.Products.WinDa
public import proofs.«01_k».proof.Proof.Products.WinDw
public import proofs.«01_k».proof.Proof.Products.WoutFwd
public import proofs.«01_k».proof.Proof.Products.WoutDa
public import proofs.«01_k».proof.Proof.Products.WoutDw
public import proofs.«01_k».proof.Proof.Products.WrFwd
public import proofs.«01_k».proof.Proof.Products.WrDa
public import proofs.«01_k».proof.Proof.Products.WrDw
public import proofs.«01_k».proof.Proof.Adam.AdamWr
public import proofs.«01_k».proof.Proof.Adam.AdamWin
public import proofs.«01_k».proof.Proof.Adam.AdamRep
public import proofs.«01_k».proof.Proof.Adam.AdamSmallVec
public import proofs.«01_k».proof.Proof.Adam.AdamSmallMat
public import proofs.«01_k».proof.Proof.Adam.AdamAdaB
public import proofs.«01_k».proof.Proof.Adam.AdamW13Second
public import proofs.«01_k».proof.Proof.Adam.AdamW2Second
public import proofs.«01_k».proof.Proof.Adam.AdamAdaWSecond
public import proofs.«01_k».proof.Proof.Rows.ResNormFwd
public import proofs.«01_k».proof.Proof.Rows.ResNormBwd
public import proofs.«01_k».proof.Proof.Rows.NormFwd
public import proofs.«01_k».proof.Proof.Rows.SwigluBwd
public import proofs.«01_k».proof.Proof.Rows.SwigluFwd
public import proofs.«01_k».proof.Proof.Rows.LossHead
public import proofs.«01_k».proof.Proof.Rows.ConvFwd
public import proofs.«01_k».proof.Proof.Rows.GradX
public import proofs.«01_k».proof.Proof.Rows.GradXBits
public import proofs.«01_k».proof.Proof.Rows.StepLoss
public import proofs.«01_k».proof.Proof.Rows.StepLossBits
public import Idealize.ShloMosaic.Lib.Claim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    fun m ρ _ => Cert.Kernel.Gen.frame m ρ, fun m ρ _ => Cert.KernelIdeal.Gen.frame m ρ, Conv.frameR,
    fun m ρ _ => Cert.Kernel2.Gen.frame m ρ, fun m ρ _ => Cert.Kernel2Ideal.Gen.frame m ρ, W13Fwd.frameR,
    fun m ρ _ => Cert.Kernel3.Gen.frame m ρ, fun m ρ _ => Cert.Kernel3Ideal.Gen.frame m ρ, W13Da.frameR,
    fun m ρ _ => Cert.Kernel4.Gen.frame m ρ, fun m ρ _ => Cert.Kernel4Ideal.Gen.frame m ρ, W13Dw.frameR,
    fun m ρ _ => Cert.Kernel5.Gen.frame m ρ, fun m ρ _ => Cert.Kernel5Ideal.Gen.frame m ρ, W2Fwd.frameR,
    fun m ρ _ => Cert.Kernel6.Gen.frame m ρ, fun m ρ _ => Cert.Kernel6Ideal.Gen.frame m ρ, W2Da.frameR,
    fun m ρ _ => Cert.Kernel7.Gen.frame m ρ, fun m ρ _ => Cert.Kernel7Ideal.Gen.frame m ρ, W2Dw.frameR,
    fun m ρ _ => Cert.Kernel8.Gen.frame m ρ, fun m ρ _ => Cert.Kernel8Ideal.Gen.frame m ρ, WinFwd.frameR,
    fun m ρ _ => Cert.Kernel9.Gen.frame m ρ, fun m ρ _ => Cert.Kernel9Ideal.Gen.frame m ρ, WinDa.frameR,
    fun m ρ _ => Cert.Kernel10.Gen.frame m ρ, fun m ρ _ => Cert.Kernel10Ideal.Gen.frame m ρ, WinDw.frameR,
    fun m ρ _ => Cert.Kernel11.Gen.frame m ρ, fun m ρ _ => Cert.Kernel11Ideal.Gen.frame m ρ, WoutFwd.frameR,
    fun m ρ _ => Cert.Kernel12.Gen.frame m ρ, fun m ρ _ => Cert.Kernel12Ideal.Gen.frame m ρ, WoutDa.frameR,
    fun m ρ _ => Cert.Kernel13.Gen.frame m ρ, fun m ρ _ => Cert.Kernel13Ideal.Gen.frame m ρ, WoutDw.frameR,
    fun m ρ _ => Cert.Kernel14.Gen.frame m ρ, fun m ρ _ => Cert.Kernel14Ideal.Gen.frame m ρ, WrFwd.frameR,
    fun m ρ _ => Cert.Kernel15.Gen.frame m ρ, fun m ρ _ => Cert.Kernel15Ideal.Gen.frame m ρ, WrDa.frameR,
    fun m ρ _ => Cert.Kernel16.Gen.frame m ρ, fun m ρ _ => Cert.Kernel16Ideal.Gen.frame m ρ, WrDw.frameR,
    fun m ρ _ => Cert.Kernel17.Gen.frame m ρ, fun m ρ _ => Cert.Kernel17Ideal.Gen.frame m ρ, AdamWr.frameR,
    fun m ρ _ => Cert.Kernel18.Gen.frame m ρ, fun m ρ _ => Cert.Kernel18Ideal.Gen.frame m ρ, AdamWin.frameR,
    fun m ρ _ => Cert.Kernel19.Gen.frame m ρ, fun m ρ _ => Cert.Kernel19Ideal.Gen.frame m ρ, AdamRep.frameR,
    fun m ρ _ => Cert.Kernel20.Gen.frame m ρ, fun m ρ _ => Cert.Kernel20Ideal.Gen.frame m ρ, AdamSmallVec.frameR,
    fun m ρ _ => Cert.Kernel21.Gen.frame m ρ, fun m ρ _ => Cert.Kernel21Ideal.Gen.frame m ρ, AdamSmallMat.frameR,
    fun m ρ _ => Cert.Kernel22.Gen.frame m ρ, fun m ρ _ => Cert.Kernel22Ideal.Gen.frame m ρ, AdamAdaB.frameR,
    fun m ρ _ => Cert.Kernel23.Gen.frame m ρ, fun m ρ _ => Cert.Kernel23Ideal.Gen.frame m ρ, AdamW13Second.frameR,
    fun m ρ _ => Cert.Kernel24.Gen.frame m ρ, fun m ρ _ => Cert.Kernel24Ideal.Gen.frame m ρ, AdamW2Second.frameR,
    fun m ρ _ => Cert.Kernel25.Gen.frame m ρ, fun m ρ _ => Cert.Kernel25Ideal.Gen.frame m ρ, AdamAdaWSecond.frameR,
    fun m ρ _ => Cert.Kernel26.Gen.frame m ρ, fun m ρ _ => Cert.Kernel26Ideal.Gen.frame m ρ, ResNormFwd.frameR,
    fun m ρ _ => Cert.Kernel27.Gen.frame m ρ, fun m ρ _ => Cert.Kernel27Ideal.Gen.frame m ρ, ResNormBwd.frameR,
    fun m ρ _ => Cert.Kernel28.Gen.frame m ρ, fun m ρ _ => Cert.Kernel28Ideal.Gen.frame m ρ, NormFwd.frameR,
    fun m ρ _ => Cert.Kernel29.Gen.frame m ρ, fun m ρ _ => Cert.Kernel29Ideal.Gen.frame m ρ, SwigluBwd.frameR,
    fun m ρ _ => Cert.Kernel30.Gen.frame m ρ, fun m ρ _ => Cert.Kernel30Ideal.Gen.frame m ρ, SwigluFwd.frameR,
    fun m ρ _ => Cert.Kernel31.Gen.frame m ρ, fun m ρ _ => Cert.Kernel31Ideal.Gen.frame m ρ, LossHead.frameR,
    fun m ρ _ => Cert.Kernel32.Gen.frame m ρ, fun m ρ _ => Cert.Kernel32Ideal.Gen.frame m ρ, ConvFwd.frameR,
    GradX.frameBits, fun m ρ _ => GradX.frame m ρ, GradX.frameR,
    StepLoss.frameBits, fun m ρ _ => StepLoss.frame m ρ, StepLoss.frameR,
    trivial, Conv.algebraic,
    trivial, W13Fwd.algebraic,
    trivial, W13Da.algebraic,
    trivial, W13Dw.algebraic,
    trivial, W2Fwd.algebraic,
    trivial, W2Da.algebraic,
    trivial, W2Dw.algebraic,
    trivial, WinFwd.algebraic,
    trivial, WinDa.algebraic,
    trivial, WinDw.algebraic,
    trivial, WoutFwd.algebraic,
    trivial, WoutDa.algebraic,
    trivial, WoutDw.algebraic,
    trivial, WrFwd.algebraic,
    trivial, WrDa.algebraic,
    trivial, WrDw.algebraic,
    trivial, AdamWr.algebraic,
    trivial, AdamWin.algebraic,
    trivial, AdamRep.algebraic,
    trivial, AdamSmallVec.algebraic,
    trivial, AdamSmallMat.algebraic,
    trivial, AdamAdaB.algebraic,
    trivial, AdamW13Second.algebraic,
    trivial, AdamW2Second.algebraic,
    trivial, AdamAdaWSecond.algebraic,
    trivial, ResNormFwd.algebraic,
    trivial, ResNormBwd.algebraic,
    trivial, NormFwd.algebraic,
    trivial, SwigluBwd.algebraic,
    trivial, SwigluFwd.algebraic,
    trivial, LossHead.algebraic,
    trivial, ConvFwd.algebraic,
    trivial, GradX.algebraic,
    trivial, StepLoss.algebraic⟩

end Cert.Proof

end
